-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1000000x4 : Shape := ⟨2, ![1000000, 4]⟩
abbrev S4 : Shape := ⟨1, ![4]⟩
abbrev S_ : Shape := ⟨0, ![]⟩
abbrev S1x4 : Shape := ⟨2, ![1, 4]⟩

class Facts : Prop where
  bcast_S_S1000000x4 : S_.BroadcastsInDim S1000000x4 (![] : Fin 0 → Fin S1000000x4.rank)
  bcast_S_S4 : S_.BroadcastsInDim S4 (![] : Fin 0 → Fin S4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)

variable [Facts]

def fn {F : FTy → Type} [FloatOps F] (main_arg0 : FVec F S1000000x4 .f32) (main_arg1 : FVec F S4 .f32) (main_arg2 : FVec F S4 .f32) : IVec S1000000x4 1 :=
  let main_v0 : FVec F S1000000x4 .f32 := Host.absf main_arg0
  let main_cst : FVec F S_ .f32 := constant S_ .f32 0x7F800000#32
  let main_v1 : FVec F S1000000x4 .f32 := broadcastInDim S1000000x4 ![] bcast_S_S1000000x4 main_cst
  let main_v2 : IVec S1000000x4 1 := cmpf .olt main_v0 main_v1
  let main_v3 : FVec F S4 .f32 := Host.absf main_arg1
  let main_cst_0 : FVec F S_ .f32 := constant S_ .f32 0x7F800000#32
  let main_v4 : FVec F S4 .f32 := broadcastInDim S4 ![] bcast_S_S4 main_cst_0
  let main_v5 : IVec S4 1 := cmpf .olt main_v3 main_v4
  let main_v6 : IVec S1x4 1 := broadcastInDim S1x4 ![1] bcast_S4_S1x4_1 main_v5
  let main_v7 : IVec S1000000x4 1 := broadcastInDim S1000000x4 ![0, 1] bcast_S1x4_S1000000x4_0_1 main_v6
  let main_v8 : IVec S1000000x4 1 := andi main_v2 main_v7
  let main_v9 : FVec F S4 .f32 := Host.absf main_arg2
  let main_cst_1 : FVec F S_ .f32 := constant S_ .f32 0x7F800000#32
  let main_v10 : FVec F S4 .f32 := broadcastInDim S4 ![] bcast_S_S4 main_cst_1
  let main_v11 : IVec S4 1 := cmpf .olt main_v9 main_v10
  let main_v12 : IVec S1x4 1 := broadcastInDim S1x4 ![1] bcast_S4_S1x4_1 main_v11
  let main_v13 : IVec S1000000x4 1 := broadcastInDim S1000000x4 ![0, 1] bcast_S1x4_S1000000x4_0_1 main_v12
  let main_v14 : IVec S1000000x4 1 := andi main_v8 main_v13
  main_v14
-- ==== Kernel.lean ====
abbrev S1000000x4 : Shape := ⟨2, ![1000000, 4]⟩
abbrev S4 : Shape := ⟨1, ![4]⟩
abbrev S4x1000000 : Shape := ⟨2, ![4, 1000000]⟩
abbrev S8x128 : Shape := ⟨2, ![8, 128]⟩
abbrev S4x131072 : Shape := ⟨2, ![4, 131072]⟩
abbrev S4x1024x128 : Shape := ⟨3, ![4, 1024, 128]⟩
abbrev S4x128 : Shape := ⟨2, ![4, 128]⟩
abbrev S_ : Shape := ⟨0, ![]⟩
abbrev S4x1 : Shape := ⟨2, ![4, 1]⟩
abbrev S4x1x128 : Shape := ⟨3, ![4, 1, 128]⟩
abbrev S1x1024x128 : Shape := ⟨3, ![1, 1024, 128]⟩
abbrev S1024x128 : Shape := ⟨2, ![1024, 128]⟩

abbrev nBuf : Space → Nat
  | .hbm => 36
  | .vmem => 11
  | .smem => 0
  | _ => 0

abbrev bufTy : (tb : Table) → Fin (tcTables nBuf tb) → BufTy
  | .hbm, ⟨0, _⟩ => ⟨S1000000x4, .f32⟩
  | .hbm, ⟨1, _⟩ => ⟨S4, .f32⟩
  | .hbm, ⟨2, _⟩ => ⟨S4, .f32⟩
  | .hbm, ⟨3, _⟩ => ⟨S4x1000000, .f32⟩
  | .hbm, ⟨4, _⟩ => ⟨S8x128, .f32⟩
  | .hbm, ⟨5, _⟩ => ⟨S8x128, .f32⟩
  | .hbm, ⟨6, _⟩ => ⟨S4x128, .f32⟩
  | .hbm, ⟨7, _⟩ => ⟨S_, .f32⟩
  | .hbm, ⟨8, _⟩ => ⟨S4, .f32⟩
  | .hbm, ⟨9, _⟩ => ⟨S4x128, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S4x1, .f32⟩
  | .hbm, ⟨28, _⟩ => ⟨S4x128, .f32⟩
  | .hbm, ⟨29, _⟩ => ⟨S4x1, .f32⟩
  | .hbm, ⟨30, _⟩ => ⟨S4x128, .f32⟩
  | .hbm, ⟨31, _⟩ => ⟨S8x128, .f32⟩
  | .hbm, ⟨32, _⟩ => ⟨S4x1000000, .f32⟩
  | .hbm, ⟨33, _⟩ => ⟨S4x1000000, .f32⟩
  | .hbm, ⟨34, _⟩ => ⟨S1000000x4, .f32⟩
  | .hbm, ⟨35, _⟩ => ⟨S1000000x4, .f32⟩
  | .local _ .vmem, ⟨0, _⟩ => ⟨S4x131072, .f32⟩
  | .local _ .vmem, ⟨1, _⟩ => ⟨S4x131072, .f32⟩
  | .local _ .vmem, ⟨2, _⟩ => ⟨S8x128, .f32⟩
  | .local _ .vmem, ⟨3, _⟩ => ⟨S8x128, .f32⟩
  | .local _ .vmem, ⟨4, _⟩ => ⟨S4x131072, .f32⟩
  | .local _ .vmem, ⟨5, _⟩ => ⟨S4x131072, .f32⟩
  | .local _ .vmem, ⟨6, _⟩ => ⟨S8x128, .f32⟩
  | .local _ .vmem, ⟨7, _⟩ => ⟨S4x131072, .f32⟩
  | .local _ .vmem, ⟨8, _⟩ => ⟨S4x131072, .f32⟩
  | .local _ .vmem, ⟨9, _⟩ => ⟨S4x131072, .f32⟩
  | .local _ .vmem, ⟨10, _⟩ => ⟨S4x131072, .f32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c7_i32 : BitVec 32 := 7#32
  let v6 : BitVec 1 := Scalar.cmpi .slt arg0 c7_i32
  let v7 : BitVec 32 := Scalar.extui v6
  let c0_i32_2 : BitVec 32 := 0#32
  let v8 : BitVec 1 := Scalar.cmpi .ne v7 c0_i32_2
  v8

def k0_cond3 (i : grid0.Coords) : BitVec 1 :=
  let arg0 : BitVec 32 := BitVec.ofNat 32 (i 0).val
  let c7_i32_3 : BitVec 32 := 7#32
  let v9 : BitVec 1 := Scalar.cmpi .eq arg0 c7_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x131072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x131072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S1000000x4 : Shape := ⟨2, ![1000000, 4]⟩
abbrev S4 : Shape := ⟨1, ![4]⟩
abbrev S_ : Shape := ⟨0, ![]⟩
abbrev S1x4 : Shape := ⟨2, ![1, 4]⟩
abbrev S1000000 : Shape := ⟨1, ![1000000]⟩
abbrev S1000000x1 : Shape := ⟨2, ![1000000, 1]⟩
abbrev S1 : Shape := ⟨1, ![1]⟩
abbrev S2 : Shape := ⟨1, ![2]⟩

abbrev nBuf : Space → Nat
  | .hbm => 349
  | .vmem => 0
  | .smem => 0
  | _ => 0

abbrev hbmTy0_0 (i : Nat) : BufTy := match i % 128 with
  | 0 => ⟨S1000000x4, .f32⟩
  | 1 => ⟨S4, .f32⟩
  | 2 => ⟨S4, .f32⟩
  | 3 => ⟨S_, .f32⟩
  | 4 => ⟨S4, .f32⟩
  | 5 => ⟨S1x4, .f32⟩
  | 6 => ⟨S_, .f32⟩
  | 7 => ⟨S1x4, .f32⟩
  | 8 => ⟨S1x4, .f32⟩
  | 9 => ⟨S_, .i32⟩
  | 10 => ⟨S_, .f32⟩
  | 11 => ⟨S4, .f32⟩
  | 12 => ⟨S1x4, .f32⟩
  | 13 => ⟨S_, .f32⟩
  | 14 => ⟨S1x4, .f32⟩
  | 15 => ⟨S1x4, .f32⟩
  | 16 => ⟨S1000000x4, .f32⟩
  | 17 => ⟨S1000000x4, .f32⟩
  | 18 => ⟨S1000000x4, .f32⟩
  | 19 => ⟨S_, .f32⟩
  | 20 => ⟨S_, .f32⟩
  | 21 => ⟨S_, .f32⟩
  | 22 => ⟨S_, .f32⟩
  | 23 => ⟨S4, .f32⟩
  | 24 => ⟨S1x4, .f32⟩
  | 25 => ⟨S1x4, .f32⟩
  | 26 => ⟨S1x4, .f32⟩
  | 27 => ⟨S_, .f32⟩
  | 28 => ⟨S_, .i1⟩
  | 29 => ⟨S_, .f32⟩
  | 30 => ⟨S_, .f32⟩
  | 31 => ⟨S1x4, .f32⟩
  | 32 => ⟨S1x4, .f32⟩
  | 33 => ⟨S1000000x4, .f32⟩
  | 34 => ⟨S1000000x4, .f32⟩
  | 35 => ⟨S_, .f32⟩
  | 36 => ⟨S1x4, .f32⟩
  | 37 => ⟨S1x4, .f32⟩
  | 38 => ⟨S1x4, .f32⟩
  | 39 => ⟨S1000000x4, .f32⟩
  | 40 => ⟨S1000000x4, .f32⟩
  | 41 => ⟨S1x4, .f32⟩
  | 42 => ⟨S1000000x4, .f32⟩
  | 43 => ⟨S1000000x4, .f32⟩
  | 44 => ⟨S1x4, .f32⟩
  | 45 => ⟨S1000000x4, .f32⟩
  | 46 => ⟨S1000000x4, .f32⟩
  | 47 => ⟨S_, .f32⟩
  | 48 => ⟨S1000000, .f32⟩
  | 49 => ⟨S_, .f32⟩
  | 50 => ⟨S1000000, .f32⟩
  | 51 => ⟨S1000000, .f32⟩
  | 52 => ⟨S1000000x1, .f32⟩
  | 53 => ⟨S1000000x4, .f32⟩
  | 54 => ⟨S1000000x4, .f32⟩
  | 55 => ⟨S1000000x4, .f32⟩
  | 56 => ⟨S_, .f32⟩
  | 57 => ⟨S1000000, .f32⟩
  | 58 => ⟨S1000000x1, .f32⟩
  | 59 => ⟨S1000000x4, .f32⟩
  | 60 => ⟨S1000000x4, .f32⟩
  | 61 => ⟨S_, .i32⟩
  | 62 => ⟨S_, .i32⟩
  | 63 => ⟨S_, .i32⟩
  | 64 => ⟨S_, .i32⟩
  | 65 => ⟨S1, .i32⟩
  | 66 => ⟨S_, .i32⟩
  | 67 => ⟨S_, .i32⟩
  | 68 => ⟨S_, .i32⟩
  | 69 => ⟨S1, .i32⟩
  | 70 => ⟨S2, .i32⟩
  | 71 => ⟨S1, .i32⟩
  | 72 => ⟨S_, .i32⟩
  | 73 => ⟨S1, .i32⟩
  | 74 => ⟨S_, .i32⟩
  | 75 => ⟨S1000000x4, .i64⟩
  | 76 => ⟨S1000000x4, .i64⟩
  | 77 => ⟨S_, .i64⟩
  | 78 => ⟨S1000000x4, .i64⟩
  | 79 => ⟨S1000000x4, .i64⟩
  | 80 => ⟨S_, .i64⟩
  | 81 => ⟨S1000000x4, .i64⟩
  | 82 => ⟨S1000000x4, .i64⟩
  | 83 => ⟨S1000000x4, .i64⟩
  | 84 => ⟨S_, .i64⟩
  | 85 => ⟨S1000000x4, .i64⟩
  | 86 => ⟨S1000000x4, .i64⟩
  | 87 => ⟨S1000000x4, .i32⟩
  | 88 => ⟨S1000000x4, .i32⟩
  | 89 => ⟨S_, .i32⟩
  | 90 => ⟨S_, .i32⟩
  | 91 => ⟨S_, .i32⟩
  | 92 => ⟨S1000000x4, .i32⟩
  | 93 => ⟨S1000000x4, .i32⟩
  | 94 => ⟨S1000000x4, .i32⟩
  | 95 => ⟨S1000000x4, .i32⟩
  | 96 => ⟨S1000000x4, .i32⟩
  | 97 => ⟨S_, .i32⟩
  | 98 => ⟨S1000000x4, .i32⟩
  | 99 => ⟨S1000000x4, .i32⟩
  | 100 => ⟨S_, .i32⟩
  | 101 => ⟨S1000000x4, .i32⟩
  | 102 => ⟨S1000000x4, .i32⟩
  | 103 => ⟨S1000000x4, .i32⟩
  | 104 => ⟨S1000000x4, .i32⟩
  | 105 => ⟨S1000000x4, .i32⟩
  | 106 => ⟨S_, .i32⟩
  | 107 => ⟨S1000000x4, .i32⟩
  | 108 => ⟨S1000000x4, .i32⟩
  | 109 => ⟨S_, .i32⟩
  | 110 => ⟨S1000000x4, .i32⟩
  | 111 => ⟨S1000000x4, .i32⟩
  | 112 => ⟨S1000000x4, .i32⟩
  | 113 => ⟨S1000000x4, .i32⟩
  | 114 => ⟨S1000000x4, .i32⟩
  | 115 => ⟨S_, .i32⟩
  | 116 => ⟨S1000000x4, .i32⟩
  | 117 => ⟨S1000000x4, .i32⟩
  | 118 => ⟨S_, .i32⟩
  | 119 => ⟨S1000000x4, .i32⟩
  | 120 => ⟨S1000000x4, .i32⟩
  | 121 => ⟨S1000000x4, .i32⟩
  | 122 => ⟨S1000000x4, .i32⟩
  | 123 => ⟨S1000000x4, .i32⟩
  | 124 => ⟨S_, .i32⟩
  | 125 => ⟨S1000000x4, .i32⟩
  | 126 => ⟨S1000000x4, .i32⟩
  | 127 => ⟨S_, .i32⟩
  | _ => ⟨S1000000x4, .f32⟩

abbrev hbmTy0_1 (i : Nat) : BufTy := match i % 128 with
  | 0 => ⟨S1000000x4, .i32⟩
  | 1 => ⟨S1000000x4, .i32⟩
  | 2 => ⟨S1000000x4, .i32⟩
  | 3 => ⟨S1000000x4, .i32⟩
  | 4 => ⟨S1000000x4, .i32⟩
  | 5 => ⟨S1000000x4, .i32⟩
  | 6 => ⟨S1000000x4, .i32⟩
  | 7 => ⟨S1000000x4, .i32⟩
  | 8 => ⟨S_, .i32⟩
  | 9 => ⟨S1000000x4, .i32⟩
  | 10 => ⟨S1000000x4, .i32⟩
  | 11 => ⟨S1000000x4, .i32⟩
  | 12 => ⟨S_, .i32⟩
  | 13 => ⟨S1000000x4, .i32⟩
  | 14 => ⟨S1000000x4, .i32⟩
  | 15 => ⟨S_, .i32⟩
  | 16 => ⟨S1000000x4, .i32⟩
  | 17 => ⟨S1000000x4, .i32⟩
  | 18 => ⟨S1000000x4, .i32⟩
  | 19 => ⟨S1000000x4, .i32⟩
  | 20 => ⟨S1000000x4, .i32⟩
  | 21 => ⟨S_, .i32⟩
  | 22 => ⟨S1000000x4, .i32⟩
  | 23 => ⟨S1000000x4, .i32⟩
  | 24 => ⟨S_, .i32⟩
  | 25 => ⟨S1000000x4, .i32⟩
  | 26 => ⟨S1000000x4, .i32⟩
  | 27 => ⟨S1000000x4, .i32⟩
  | 28 => ⟨S1000000x4, .i32⟩
  | 29 => ⟨S1000000x4, .i32⟩
  | 30 => ⟨S_, .i32⟩
  | 31 => ⟨S1000000x4, .i32⟩
  | 32 => ⟨S1000000x4, .i32⟩
  | 33 => ⟨S_, .i32⟩
  | 34 => ⟨S1000000x4, .i32⟩
  | 35 => ⟨S1000000x4, .i32⟩
  | 36 => ⟨S1000000x4, .i32⟩
  | 37 => ⟨S1000000x4, .i32⟩
  | 38 => ⟨S1000000x4, .i32⟩
  | 39 => ⟨S_, .i32⟩
  | 40 => ⟨S1000000x4, .i32⟩
  | 41 => ⟨S1000000x4, .i32⟩
  | 42 => ⟨S_, .i32⟩
  | 43 => ⟨S1000000x4, .i32⟩
  | 44 => ⟨S1000000x4, .i32⟩
  | 45 => ⟨S1000000x4, .i32⟩
  | 46 => ⟨S1000000x4, .i32⟩
  | 47 => ⟨S1000000x4, .i32⟩
  | 48 => ⟨S1000000x4, .i32⟩
  | 49 => ⟨S1000000x4, .i32⟩
  | 50 => ⟨S1000000x4, .i32⟩
  | 51 => ⟨S_, .i32⟩
  | 52 => ⟨S1000000x4, .i32⟩
  | 53 => ⟨S1000000x4, .i32⟩
  | 54 => ⟨S1000000x4, .i32⟩
  | 55 => ⟨S_, .i32⟩
  | 56 => ⟨S1000000x4, .i32⟩
  | 57 => ⟨S1000000x4, .i32⟩
  | 58 => ⟨S_, .i32⟩
  | 59 => ⟨S1000000x4, .i32⟩
  | 60 => ⟨S1000000x4, .i32⟩
  | 61 => ⟨S1000000x4, .i32⟩
  | 62 => ⟨S1000000x4, .i32⟩
  | 63 => ⟨S1000000x4, .i32⟩
  | 64 => ⟨S_, .i32⟩
  | 65 => ⟨S1000000x4, .i32⟩
  | 66 => ⟨S1000000x4, .i32⟩
  | 67 => ⟨S_, .i32⟩
  | 68 => ⟨S1000000x4, .i32⟩
  | 69 => ⟨S1000000x4, .i32⟩
  | 70 => ⟨S1000000x4, .i32⟩
  | 71 => ⟨S1000000x4, .i32⟩
  | 72 => ⟨S1000000x4, .i32⟩
  | 73 => ⟨S_, .i32⟩
  | 74 => ⟨S1000000x4, .i32⟩
  | 75 => ⟨S1000000x4, .i32⟩
  | 76 => ⟨S_, .i32⟩
  | 77 => ⟨S1000000x4, .i32⟩
  | 78 => ⟨S1000000x4, .i32⟩
  | 79 => ⟨S1000000x4, .i32⟩
  | 80 => ⟨S1000000x4, .i32⟩
  | 81 => ⟨S1000000x4, .i32⟩
  | 82 => ⟨S_, .i32⟩
  | 83 => ⟨S1000000x4, .i32⟩
  | 84 => ⟨S1000000x4, .i32⟩
  | 85 => ⟨S_, .i32⟩
  | 86 => ⟨S1000000x4, .i32⟩
  | 87 => ⟨S1000000x4, .i32⟩
  | 88 => ⟨S1000000x4, .i32⟩
  | 89 => ⟨S1000000x4, .i32⟩
  | 90 => ⟨S1000000x4, .i32⟩
  | 91 => ⟨S1000000x4, .i32⟩
  | 92 => ⟨S1000000x4, .i32⟩
  | 93 => ⟨S1000000x4, .i32⟩
  | 94 => ⟨S_, .i32⟩
  | 95 => ⟨S1000000x4, .i32⟩
  | 96 => ⟨S1000000x4, .i32⟩
  | 97 => ⟨S1000000x4, .i32⟩
  | 98 => ⟨S_, .i32⟩
  | 99 => ⟨S1000000x4, .i32⟩
  | 100 => ⟨S1000000x4, .i32⟩
  | 101 => ⟨S_, .i32⟩
  | 102 => ⟨S1000000x4, .i32⟩
  | 103 => ⟨S1000000x4, .i32⟩
  | 104 => ⟨S1000000x4, .i32⟩
  | 105 => ⟨S1000000x4, .i32⟩
  | 106 => ⟨S1000000x4, .i32⟩
  | 107 => ⟨S_, .i32⟩
  | 108 => ⟨S1000000x4, .i32⟩
  | 109 => ⟨S1000000x4, .i32⟩
  | 110 => ⟨S_, .i32⟩
  | 111 => ⟨S1000000x4, .i32⟩
  | 112 => ⟨S1000000x4, .i32⟩
  | 113 => ⟨S1000000x4, .i32⟩
  | 114 => ⟨S1000000x4, .i32⟩
  | 115 => ⟨S1000000x4, .i32⟩
  | 116 => ⟨S_, .i32⟩
  | 117 => ⟨S1000000x4, .i32⟩
  | 118 => ⟨S1000000x4, .i32⟩
  | 119 => ⟨S_, .i32⟩
  | 120 => ⟨S1000000x4, .i32⟩
  | 121 => ⟨S1000000x4, .i32⟩
  | 122 => ⟨S1000000x4, .i32⟩
  | 123 => ⟨S1000000x4, .i32⟩
  | 124 => ⟨S1000000x4, .i32⟩
  | 125 => ⟨S_, .i32⟩
  | 126 => ⟨S1000000x4, .i32⟩
  | 127 => ⟨S1000000x4, .i32⟩
  | _ => ⟨S1000000x4, .f32⟩

abbrev hbmTy0_2 (i : Nat) : BufTy := match i % 128 with
  | 0 => ⟨S_, .i32⟩
  | 1 => ⟨S1000000x4, .i32⟩
  | 2 => ⟨S1000000x4, .i32⟩
  | 3 => ⟨S1000000x4, .i32⟩
  | 4 => ⟨S1000000x4, .i32⟩
  | 5 => ⟨S1000000x4, .i32⟩
  | 6 => ⟨S1000000x4, .i32⟩
  | 7 => ⟨S1000000x4, .i32⟩
  | 8 => ⟨S1000000x4, .i32⟩
  | 9 => ⟨S_, .i32⟩
  | 10 => ⟨S1000000x4, .i32⟩
  | 11 => ⟨S1000000x4, .i32⟩
  | 12 => ⟨S1000000x4, .i32⟩
  | 13 => ⟨S_, .i32⟩
  | 14 => ⟨S1000000x4, .i32⟩
  | 15 => ⟨S1000000x4, .i32⟩
  | 16 => ⟨S_, .i32⟩
  | 17 => ⟨S1000000x4, .i32⟩
  | 18 => ⟨S1000000x4, .i32⟩
  | 19 => ⟨S1000000x4, .i32⟩
  | 20 => ⟨S1000000x4, .i32⟩
  | 21 => ⟨S1000000x4, .i32⟩
  | 22 => ⟨S_, .i32⟩
  | 23 => ⟨S1000000x4, .i32⟩
  | 24 => ⟨S1000000x4, .i32⟩
  | 25 => ⟨S_, .i32⟩
  | 26 => ⟨S1000000x4, .i32⟩
  | 27 => ⟨S1000000x4, .i32⟩
  | 28 => ⟨S1000000x4, .i32⟩
  | 29 => ⟨S1000000x4, .i32⟩
  | 30 => ⟨S1000000x4, .i32⟩
  | 31 => ⟨S_, .i32⟩
  | 32 => ⟨S1000000x4, .i32⟩
  | 33 => ⟨S1000000x4, .i32⟩
  | 34 => ⟨S_, .i32⟩
  | 35 => ⟨S1000000x4, .i32⟩
  | 36 => ⟨S1000000x4, .i32⟩
  | 37 => ⟨S1000000x4, .i32⟩
  | 38 => ⟨S1000000x4, .i32⟩
  | 39 => ⟨S1000000x4, .i32⟩
  | 40 => ⟨S_, .i32⟩
  | 41 => ⟨S1000000x4, .i32⟩
  | 42 => ⟨S1000000x4, .i32⟩
  | 43 => ⟨S_, .i32⟩
  | 44 => ⟨S1000000x4, .i32⟩
  | 45 => ⟨S1000000x4, .i32⟩
  | 46 => ⟨S1000000x4, .i32⟩
  | 47 => ⟨S1000000x4, .i32⟩
  | 48 => ⟨S1000000x4, .i32⟩
  | 49 => ⟨S1000000x4, .i32⟩
  | 50 => ⟨S1000000x4, .i32⟩
  | 51 => ⟨S1000000x4, .i32⟩
  | 52 => ⟨S_, .i32⟩
  | 53 => ⟨S1000000x4, .i32⟩
  | 54 => ⟨S1000000x4, .i32⟩
  | 55 => ⟨S1000000x4, .i32⟩
  | 56 => ⟨S_, .i32⟩
  | 57 => ⟨S1000000x4, .i32⟩
  | 58 => ⟨S1000000x4, .i32⟩
  | 59 => ⟨S_, .i32⟩
  | 60 => ⟨S1000000x4, .i32⟩
  | 61 => ⟨S1000000x4, .i32⟩
  | 62 => ⟨S1000000x4, .f32⟩
  | 63 => ⟨S_, .f32⟩
  | 64 => ⟨S1000000x4, .f32⟩
  | 65 => ⟨S1000000x4, .f32⟩
  | 66 => ⟨S_, .f32⟩
  | 67 => ⟨S1000000x4, .f32⟩
  | 68 => ⟨S1000000x4, .f32⟩
  | 69 => ⟨S_, .f32⟩
  | 70 => ⟨S1000000x4, .f32⟩
  | 71 => ⟨S1000000x4, .f32⟩
  | 72 => ⟨S_, .f32⟩
  | 73 => ⟨S1000000x4, .f32⟩
  | 74 => ⟨S1000000x4, .f32⟩
  | 75 => ⟨S1000000x4, .f32⟩
  | 76 => ⟨S1000000x4, .f32⟩
  | 77 => ⟨S1000000x4, .f32⟩
  | 78 => ⟨S1000000x4, .f32⟩
  | 79 => ⟨S1000000x4, .f32⟩
  | 80 => ⟨S1000000x4, .i32⟩
  | 81 => ⟨S_, .f32⟩
  | 82 => ⟨S_, .i32⟩
  | 83 => ⟨S1000000, .f32⟩
  | 84 => ⟨S1000000, .i32⟩
  | 85 => ⟨S1000000x1, .i32⟩
  | 86 => ⟨S1x4, .i32⟩
  | 87 => ⟨S1000000x4, .i32⟩
  | 88 => ⟨S1000000x4, .i32⟩
  | 89 => ⟨S1000000x4, .i1⟩
  | 90 => ⟨S1000000x4, .f32⟩
  | 91 => ⟨S1000000x4, .f32⟩
  | 92 => ⟨S1000000x4, .f32⟩
  | _ => ⟨S1000000x4, .f32⟩

abbrev hbmTy (i : Nat) : BufTy := match i / 128 with
  | 0 => hbmTy0_0 i
  | 1 => hbmTy0_1 i
  | 2 => hbmTy0_2 i
  | _ => ⟨S1000000x4, .f32⟩

abbrev bufTy : (tb : Table) → Fin (tcTables nBuf tb) → BufTy
  | .hbm, ⟨i, _⟩ => hbmTy i
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_7 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_8 : Ref sig .tc := ⟨.hbm, 77, rfl⟩
abbrev main_v42 : Ref sig .tc := ⟨.hbm, 78, rfl⟩
abbrev main_v43 : Ref sig .tc := ⟨.hbm, 79, rfl⟩
abbrev main_c_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_10 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call1_v0 : Ref sig .tc := ⟨.hbm, 89, rfl⟩
abbrev main_call1_c : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_c_0 : Ref sig .tc := ⟨.hbm, 97, rfl⟩
abbrev main_call1_v7 : Ref sig .tc := ⟨.hbm, 98, rfl⟩
abbrev main_call1_v8 : Ref sig .tc := ⟨.hbm, 99, rfl⟩
abbrev main_call1_c_1 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_v12 : Ref sig .tc := ⟨.hbm, 104, rfl⟩
abbrev main_call1_v13 : Ref sig .tc := ⟨.hbm, 105, rfl⟩
abbrev main_call1_c_2 : Ref sig .tc := ⟨.hbm, 106, rfl⟩
abbrev main_call1_v14 : Ref sig .tc := ⟨.hbm, 107, rfl⟩
abbrev main_call1_v15 : Ref sig .tc := ⟨.hbm, 108, rfl⟩
abbrev main_call1_c_3 : Ref sig .tc := ⟨.hbm, 109, rfl⟩
abbrev main_call1_v16 : Ref sig .tc := ⟨.hbm, 110, rfl⟩
abbrev main_call1_v17 : Ref sig .tc := ⟨.hbm, 111, rfl⟩
abbrev main_call1_v18 : Ref sig .tc := ⟨.hbm, 112, rfl⟩
abbrev main_call1_v19 : Ref sig .tc := ⟨.hbm, 113, rfl⟩
abbrev main_call1_v20 : Ref sig .tc := ⟨.hbm, 114, rfl⟩
abbrev main_call1_c_4 : Ref sig .tc := ⟨.hbm, 115, rfl⟩
abbrev main_call1_v21 : Ref sig .tc := ⟨.hbm, 116, rfl⟩
abbrev main_call1_v22 : Ref sig .tc := ⟨.hbm, 117, rfl⟩
abbrev main_call1_c_5 : Ref sig .tc := ⟨.hbm, 118, rfl⟩
abbrev main_call1_v23 : Ref sig .tc := ⟨.hbm, 119, rfl⟩
abbrev main_call1_v24 : Ref sig .tc := ⟨.hbm, 120, rfl⟩
abbrev main_call1_v25 : Ref sig .tc := ⟨.hbm, 121, rfl⟩
abbrev main_call1_v26 : Ref sig .tc := ⟨.hbm, 122, rfl⟩
abbrev main_call1_v27 : Ref sig .tc := ⟨.hbm, 123, rfl⟩
abbrev main_call1_c_6 : Ref sig .tc := ⟨.hbm, 124, rfl⟩
abbrev main_call1_v28 : Ref sig .tc := ⟨.hbm, 125, rfl⟩
abbrev main_call1_v29 : Ref sig .tc := ⟨.hbm, 126, rfl⟩
abbrev main_call1_c_7 : Ref sig .tc := ⟨.hbm, 127, rfl⟩
abbrev main_call1_v30 : Ref sig .tc := ⟨.hbm, 128, rfl⟩
abbrev main_call1_v31 : Ref sig .tc := ⟨.hbm, 129, rfl⟩
abbrev main_call1_v32 : Ref sig .tc := ⟨.hbm, 130, rfl⟩
abbrev main_call1_v33 : Ref sig .tc := ⟨.hbm, 131, rfl⟩
abbrev main_call1_v34 : Ref sig .tc := ⟨.hbm, 132, rfl⟩
abbrev main_call1_v35 : Ref sig .tc := ⟨.hbm, 133, rfl⟩
abbrev main_call1_v36 : Ref sig .tc := ⟨.hbm, 134, rfl⟩
abbrev main_call1_v37 : Ref sig .tc := ⟨.hbm, 135, rfl⟩
abbrev main_call1_c_8 : Ref sig .tc := ⟨.hbm, 136, rfl⟩
abbrev main_call1_v38 : Ref sig .tc := ⟨.hbm, 137, rfl⟩
abbrev main_call1_v39 : Ref sig .tc := ⟨.hbm, 138, rfl⟩
abbrev main_call1_v40 : Ref sig .tc := ⟨.hbm, 139, rfl⟩
abbrev main_call1_c_9 : Ref sig .tc := ⟨.hbm, 140, rfl⟩
abbrev main_call1_v41 : Ref sig .tc := ⟨.hbm, 141, rfl⟩
abbrev main_call1_v42 : Ref sig .tc := ⟨.hbm, 142, rfl⟩
abbrev main_call1_c_10 : Ref sig .tc := ⟨.hbm, 143, rfl⟩
abbrev main_call1_v43 : Ref sig .tc := ⟨.hbm, 144, rfl⟩
abbrev main_call1_v44 : Ref sig .tc := ⟨.hbm, 145, rfl⟩
abbrev main_call1_v45 : Ref sig .tc := ⟨.hbm, 146, rfl⟩
abbrev main_call1_v46 : Ref sig .tc := ⟨.hbm, 147, rfl⟩
abbrev main_call1_v47 : Ref sig .tc := ⟨.hbm, 148, rfl⟩
abbrev main_call1_c_11 : Ref sig .tc := ⟨.hbm, 149, rfl⟩
abbrev main_call1_v48 : Ref sig .tc := ⟨.hbm, 150, rfl⟩
abbrev main_call1_v49 : Ref sig .tc := ⟨.hbm, 151, rfl⟩
abbrev main_call1_c_12 : Ref sig .tc := ⟨.hbm, 152, rfl⟩
abbrev main_call1_v50 : Ref sig .tc := ⟨.hbm, 153, rfl⟩
abbrev main_call1_v51 : Ref sig .tc := ⟨.hbm, 154, rfl⟩
abbrev main_call1_v52 : Ref sig .tc := ⟨.hbm, 155, rfl⟩
abbrev main_call1_v53 : Ref sig .tc := ⟨.hbm, 156, rfl⟩
abbrev main_call1_v54 : Ref sig .tc := ⟨.hbm, 157, rfl⟩
abbrev main_call1_c_13 : Ref sig .tc := ⟨.hbm, 158, rfl⟩
abbrev main_call1_v55 : Ref sig .tc := ⟨.hbm, 159, rfl⟩
abbrev main_call1_v56 : Ref sig .tc := ⟨.hbm, 160, rfl⟩
abbrev main_call1_c_14 : Ref sig .tc := ⟨.hbm, 161, rfl⟩
abbrev main_call1_v57 : Ref sig .tc := ⟨.hbm, 162, rfl⟩
abbrev main_call1_v58 : Ref sig .tc := ⟨.hbm, 163, rfl⟩
abbrev main_call1_v59 : Ref sig .tc := ⟨.hbm, 164, rfl⟩
abbrev main_call1_v60 : Ref sig .tc := ⟨.hbm, 165, rfl⟩
abbrev main_call1_v61 : Ref sig .tc := ⟨.hbm, 166, rfl⟩
abbrev main_call1_c_15 : Ref sig .tc := ⟨.hbm, 167, rfl⟩
abbrev main_call1_v62 : Ref sig .tc := ⟨.hbm, 168, rfl⟩
abbrev main_call1_v63 : Ref sig .tc := ⟨.hbm, 169, rfl⟩
abbrev main_call1_c_16 : Ref sig .tc := ⟨.hbm, 170, rfl⟩
abbrev main_call1_v64 : Ref sig .tc := ⟨.hbm, 171, rfl⟩
abbrev main_call1_v65 : Ref sig .tc := ⟨.hbm, 172, rfl⟩
abbrev main_call1_v66 : Ref sig .tc := ⟨.hbm, 173, rfl⟩
abbrev main_call1_v67 : Ref sig .tc := ⟨.hbm, 174, rfl⟩
abbrev main_call1_v68 : Ref sig .tc := ⟨.hbm, 175, rfl⟩
abbrev main_call1_v69 : Ref sig .tc := ⟨.hbm, 176, rfl⟩
abbrev main_call1_v70 : Ref sig .tc := ⟨.hbm, 177, rfl⟩
abbrev main_call1_v71 : Ref sig .tc := ⟨.hbm, 178, rfl⟩
abbrev main_call1_c_17 : Ref sig .tc := ⟨.hbm, 179, rfl⟩
abbrev main_call1_v72 : Ref sig .tc := ⟨.hbm, 180, rfl⟩
abbrev main_call1_v73 : Ref sig .tc := ⟨.hbm, 181, rfl⟩
abbrev main_call1_v74 : Ref sig .tc := ⟨.hbm, 182, rfl⟩
abbrev main_call1_c_18 : Ref sig .tc := ⟨.hbm, 183, rfl⟩
abbrev main_call1_v75 : Ref sig .tc := ⟨.hbm, 184, rfl⟩
abbrev main_call1_v76 : Ref sig .tc := ⟨.hbm, 185, rfl⟩
abbrev main_call1_c_19 : Ref sig .tc := ⟨.hbm, 186, rfl⟩
abbrev main_call1_v77 : Ref sig .tc := ⟨.hbm, 187, rfl⟩
abbrev main_call1_v78 : Ref sig .tc := ⟨.hbm, 188, rfl⟩
abbrev main_call1_v79 : Ref sig .tc := ⟨.hbm, 189, rfl⟩
abbrev main_call1_v80 : Ref sig .tc := ⟨.hbm, 190, rfl⟩
abbrev main_call1_v81 : Ref sig .tc := ⟨.hbm, 191, rfl⟩
abbrev main_call1_c_20 : Ref sig .tc := ⟨.hbm, 192, rfl⟩
abbrev main_call1_v82 : Ref sig .tc := ⟨.hbm, 193, rfl⟩
abbrev main_call1_v83 : Ref sig .tc := ⟨.hbm, 194, rfl⟩
abbrev main_call1_c_21 : Ref sig .tc := ⟨.hbm, 195, rfl⟩
abbrev main_call1_v84 : Ref sig .tc := ⟨.hbm, 196, rfl⟩
abbrev main_call1_v85 : Ref sig .tc := ⟨.hbm, 197, rfl⟩
abbrev main_call1_v86 : Ref sig .tc := ⟨.hbm, 198, rfl⟩
abbrev main_call1_v87 : Ref sig .tc := ⟨.hbm, 199, rfl⟩
abbrev main_call1_v88 : Ref sig .tc := ⟨.hbm, 200, rfl⟩
abbrev main_call1_c_22 : Ref sig .tc := ⟨.hbm, 201, rfl⟩
abbrev main_call1_v89 : Ref sig .tc := ⟨.hbm, 202, rfl⟩
abbrev main_call1_v90 : Ref sig .tc := ⟨.hbm, 203, rfl⟩
abbrev main_call1_c_23 : Ref sig .tc := ⟨.hbm, 204, rfl⟩
abbrev main_call1_v91 : Ref sig .tc := ⟨.hbm, 205, rfl⟩
abbrev main_call1_v92 : Ref sig .tc := ⟨.hbm, 206, rfl⟩
abbrev main_call1_v93 : Ref sig .tc := ⟨.hbm, 207, rfl⟩
abbrev main_call1_v94 : Ref sig .tc := ⟨.hbm, 208, rfl⟩
abbrev main_call1_v95 : Ref sig .tc := ⟨.hbm, 209, rfl⟩
abbrev main_call1_c_24 : Ref sig .tc := ⟨.hbm, 210, rfl⟩
abbrev main_call1_v96 : Ref sig .tc := ⟨.hbm, 211, rfl⟩
abbrev main_call1_v97 : Ref sig .tc := ⟨.hbm, 212, rfl⟩
abbrev main_call1_c_25 : Ref sig .tc := ⟨.hbm, 213, rfl⟩
abbrev main_call1_v98 : Ref sig .tc := ⟨.hbm, 214, rfl⟩
abbrev main_call1_v99 : Ref sig .tc := ⟨.hbm, 215, rfl⟩
abbrev main_call1_v100 : Ref sig .tc := ⟨.hbm, 216, rfl⟩
abbrev main_call1_v101 : Ref sig .tc := ⟨.hbm, 217, rfl⟩
abbrev main_call1_v102 : Ref sig .tc := ⟨.hbm, 218, rfl⟩
abbrev main_call1_v103 : Ref sig .tc := ⟨.hbm, 219, rfl⟩
abbrev main_call1_v104 : Ref sig .tc := ⟨.hbm, 220, rfl⟩
abbrev main_call1_v105 : Ref sig .tc := ⟨.hbm, 221, rfl⟩
abbrev main_call1_c_26 : Ref sig .tc := ⟨.hbm, 222, rfl⟩
abbrev main_call1_v106 : Ref sig .tc := ⟨.hbm, 223, rfl⟩
abbrev main_call1_v107 : Ref sig .tc := ⟨.hbm, 224, rfl⟩
abbrev main_call1_v108 : Ref sig .tc := ⟨.hbm, 225, rfl⟩
abbrev main_call1_c_27 : Ref sig .tc := ⟨.hbm, 226, rfl⟩
abbrev main_call1_v109 : Ref sig .tc := ⟨.hbm, 227, rfl⟩
abbrev main_call1_v110 : Ref sig .tc := ⟨.hbm, 228, rfl⟩
abbrev main_call1_c_28 : Ref sig .tc := ⟨.hbm, 229, rfl⟩
abbrev main_call1_v111 : Ref sig .tc := ⟨.hbm, 230, rfl⟩
abbrev main_call1_v112 : Ref sig .tc := ⟨.hbm, 231, rfl⟩
abbrev main_call1_v113 : Ref sig .tc := ⟨.hbm, 232, rfl⟩
abbrev main_call1_v114 : Ref sig .tc := ⟨.hbm, 233, rfl⟩
abbrev main_call1_v115 : Ref sig .tc := ⟨.hbm, 234, rfl⟩
abbrev main_call1_c_29 : Ref sig .tc := ⟨.hbm, 235, rfl⟩
abbrev main_call1_v116 : Ref sig .tc := ⟨.hbm, 236, rfl⟩
abbrev main_call1_v117 : Ref sig .tc := ⟨.hbm, 237, rfl⟩
abbrev main_call1_c_30 : Ref sig .tc := ⟨.hbm, 238, rfl⟩
abbrev main_call1_v118 : Ref sig .tc := ⟨.hbm, 239, rfl⟩
abbrev main_call1_v119 : Ref sig .tc := ⟨.hbm, 240, rfl⟩
abbrev main_call1_v120 : Ref sig .tc := ⟨.hbm, 241, rfl⟩
abbrev main_call1_v121 : Ref sig .tc := ⟨.hbm, 242, rfl⟩
abbrev main_call1_v122 : Ref sig .tc := ⟨.hbm, 243, rfl⟩
abbrev main_call1_c_31 : Ref sig .tc := ⟨.hbm, 244, rfl⟩
abbrev main_call1_v123 : Ref sig .tc := ⟨.hbm, 245, rfl⟩
abbrev main_call1_v124 : Ref sig .tc := ⟨.hbm, 246, rfl⟩
abbrev main_call1_c_32 : Ref sig .tc := ⟨.hbm, 247, rfl⟩
abbrev main_call1_v125 : Ref sig .tc := ⟨.hbm, 248, rfl⟩
abbrev main_call1_v126 : Ref sig .tc := ⟨.hbm, 249, rfl⟩
abbrev main_call1_v127 : Ref sig .tc := ⟨.hbm, 250, rfl⟩
abbrev main_call1_v128 : Ref sig .tc := ⟨.hbm, 251, rfl⟩
abbrev main_call1_v129 : Ref sig .tc := ⟨.hbm, 252, rfl⟩
abbrev main_call1_c_33 : Ref sig .tc := ⟨.hbm, 253, rfl⟩
abbrev main_call1_v130 : Ref sig .tc := ⟨.hbm, 254, rfl⟩
abbrev main_call1_v131 : Ref sig .tc := ⟨.hbm, 255, rfl⟩
abbrev main_call1_c_34 : Ref sig .tc := ⟨.hbm, 256, rfl⟩
abbrev main_call1_v132 : Ref sig .tc := ⟨.hbm, 257, rfl⟩
abbrev main_call1_v133 : Ref sig .tc := ⟨.hbm, 258, rfl⟩
abbrev main_call1_v134 : Ref sig .tc := ⟨.hbm, 259, rfl⟩
abbrev main_call1_v135 : Ref sig .tc := ⟨.hbm, 260, rfl⟩
abbrev main_call1_v136 : Ref sig .tc := ⟨.hbm, 261, rfl⟩
abbrev main_call1_v137 : Ref sig .tc := ⟨.hbm, 262, rfl⟩
abbrev main_call1_v138 : Ref sig .tc := ⟨.hbm, 263, rfl⟩
abbrev main_call1_v139 : Ref sig .tc := ⟨.hbm, 264, rfl⟩
abbrev main_call1_c_35 : Ref sig .tc := ⟨.hbm, 265, rfl⟩
abbrev main_call1_v140 : Ref sig .tc := ⟨.hbm, 266, rfl⟩
abbrev main_call1_v141 : Ref sig .tc := ⟨.hbm, 267, rfl⟩
abbrev main_call1_v142 : Ref sig .tc := ⟨.hbm, 268, rfl⟩
abbrev main_call1_c_36 : Ref sig .tc := ⟨.hbm, 269, rfl⟩
abbrev main_call1_v143 : Ref sig .tc := ⟨.hbm, 270, rfl⟩
abbrev main_call1_v144 : Ref sig .tc := ⟨.hbm, 271, rfl⟩
abbrev main_call1_c_37 : Ref sig .tc := ⟨.hbm, 272, rfl⟩
abbrev main_call1_v145 : Ref sig .tc := ⟨.hbm, 273, rfl⟩
abbrev main_call1_v146 : Ref sig .tc := ⟨.hbm, 274, rfl⟩
abbrev main_call1_v147 : Ref sig .tc := ⟨.hbm, 275, rfl⟩
abbrev main_call1_v148 : Ref sig .tc := ⟨.hbm, 276, rfl⟩
abbrev main_call1_v149 : Ref sig .tc := ⟨.hbm, 277, rfl⟩
abbrev main_call1_c_38 : Ref sig .tc := ⟨.hbm, 278, rfl⟩
abbrev main_call1_v150 : Ref sig .tc := ⟨.hbm, 279, rfl⟩
abbrev main_call1_v151 : Ref sig .tc := ⟨.hbm, 280, rfl⟩
abbrev main_call1_c_39 : Ref sig .tc := ⟨.hbm, 281, rfl⟩
abbrev main_call1_v152 : Ref sig .tc := ⟨.hbm, 282, rfl⟩
abbrev main_call1_v153 : Ref sig .tc := ⟨.hbm, 283, rfl⟩
abbrev main_call1_v154 : Ref sig .tc := ⟨.hbm, 284, rfl⟩
abbrev main_call1_v155 : Ref sig .tc := ⟨.hbm, 285, rfl⟩
abbrev main_call1_v156 : Ref sig .tc := ⟨.hbm, 286, rfl⟩
abbrev main_call1_c_40 : Ref sig .tc := ⟨.hbm, 287, rfl⟩
abbrev main_call1_v157 : Ref sig .tc := ⟨.hbm, 288, rfl⟩
abbrev main_call1_v158 : Ref sig .tc := ⟨.hbm, 289, rfl⟩
abbrev main_call1_c_41 : Ref sig .tc := ⟨.hbm, 290, rfl⟩
abbrev main_call1_v159 : Ref sig .tc := ⟨.hbm, 291, rfl⟩
abbrev main_call1_v160 : Ref sig .tc := ⟨.hbm, 292, rfl⟩
abbrev main_call1_v161 : Ref sig .tc := ⟨.hbm, 293, rfl⟩
abbrev main_call1_v162 : Ref sig .tc := ⟨.hbm, 294, rfl⟩
abbrev main_call1_v163 : Ref sig .tc := ⟨.hbm, 295, rfl⟩
abbrev main_call1_c_42 : Ref sig .tc := ⟨.hbm, 296, rfl⟩
abbrev main_call1_v164 : Ref sig .tc := ⟨.hbm, 297, rfl⟩
abbrev main_call1_v165 : Ref sig .tc := ⟨.hbm, 298, rfl⟩
abbrev main_call1_c_43 : Ref sig .tc := ⟨.hbm, 299, rfl⟩
abbrev main_call1_v166 : Ref sig .tc := ⟨.hbm, 300, rfl⟩
abbrev main_call1_v167 : Ref sig .tc := ⟨.hbm, 301, rfl⟩
abbrev main_call1_v168 : Ref sig .tc := ⟨.hbm, 302, rfl⟩
abbrev main_call1_v169 : Ref sig .tc := ⟨.hbm, 303, rfl⟩
abbrev main_call1_v170 : Ref sig .tc := ⟨.hbm, 304, rfl⟩
abbrev main_v51_0 : Ref sig .tc := ⟨.hbm, 305, rfl⟩
abbrev main_call1_v172 : Ref sig .tc := ⟨.hbm, 306, rfl⟩
abbrev main_call1_v173 : Ref sig .tc := ⟨.hbm, 307, rfl⟩
abbrev main_call1_c_44 : Ref sig .tc := ⟨.hbm, 308, rfl⟩
abbrev main_call1_v174 : Ref sig .tc := ⟨.hbm, 309, rfl⟩
abbrev main_v51_1 : Ref sig .tc := ⟨.hbm, 310, rfl⟩
abbrev main_v52 : Ref sig .tc := ⟨.hbm, 311, rfl⟩
abbrev main_c_11 : Ref sig .tc := ⟨.hbm, 312, rfl⟩
abbrev main_v53 : Ref sig .tc := ⟨.hbm, 313, rfl⟩
abbrev main_v54 : Ref sig .tc := ⟨.hbm, 314, rfl⟩
abbrev main_c_12 : Ref sig .tc := ⟨.hbm, 315, rfl⟩
abbrev main_v55 : Ref sig .tc := ⟨.hbm, 316, rfl⟩
abbrev main_v56 : Ref sig .tc := ⟨.hbm, 317, rfl⟩
abbrev main_v57 : Ref sig .tc := ⟨.hbm, 318, rfl⟩
abbrev main_cst_13 : Ref sig .tc := ⟨.hbm, 319, rfl⟩
abbrev main_v58 : Ref sig .tc := ⟨.hbm, 320, rfl⟩
abbrev main_v59 : Ref sig .tc := ⟨.hbm, 321, rfl⟩
abbrev main_cst_14 : Ref sig .tc := ⟨.hbm, 322, rfl⟩
abbrev main_v60 : Ref sig .tc := ⟨.hbm, 323, rfl⟩
abbrev main_v61 : Ref sig .tc := ⟨.hbm, 324, rfl⟩
abbrev main_cst_15 : Ref sig .tc := ⟨.hbm, 325, rfl⟩
abbrev main_v62 : Ref sig .tc := ⟨.hbm, 326, rfl⟩
abbrev main_v63 : Ref sig .tc := ⟨.hbm, 327, rfl⟩
abbrev main_cst_16 : Ref sig .tc := ⟨.hbm, 328, rfl⟩
abbrev main_v64 : Ref sig .tc := ⟨.hbm, 329, rfl⟩
abbrev main_v65 : Ref sig .tc := ⟨.hbm, 330, rfl⟩
abbrev main_v66 : Ref sig .tc := ⟨.hbm, 331, rfl⟩
abbrev main_v67 : Ref sig .tc := ⟨.hbm, 332, rfl⟩
abbrev main_v68 : Ref sig .tc := ⟨.hbm, 333, rfl⟩
abbrev main_v69 : Ref sig .tc := ⟨.hbm, 334, rfl⟩
abbrev main_v70 : Ref sig .tc := ⟨.hbm, 335, rfl⟩
abbrev main_call2_v0 : Ref sig .tc := ⟨.hbm, 336, rfl⟩
abbrev main_call2_cst : Ref sig .tc := ⟨.hbm, 337, rfl⟩
abbrev main_call2_c : Ref sig .tc := ⟨.hbm, 338, rfl⟩
abbrev main_call2_v1_0 : Ref sig .tc := ⟨.hbm, 339, rfl⟩
abbrev main_v71 : Ref sig .tc := ⟨.hbm, 340, rfl⟩
abbrev main_call3_v0 : Ref sig .tc := ⟨.hbm, 341, rfl⟩
abbrev main_call3_v1 : Ref sig .tc := ⟨.hbm, 342, rfl⟩
abbrev main_call3_v2 : Ref sig .tc := ⟨.hbm, 343, rfl⟩
abbrev main_call3_v3 : Ref sig .tc := ⟨.hbm, 344, rfl⟩
abbrev main_call3_v4 : Ref sig .tc := ⟨.hbm, 345, rfl⟩
abbrev main_v72 : Ref sig .tc := ⟨.hbm, 346, rfl⟩
abbrev main_v73 : Ref sig .tc := ⟨.hbm, 347, rfl⟩
abbrev main_v74 : Ref sig .tc := ⟨.hbm, 348, rfl⟩

abbrev nD : Nat := 1
abbrev τ : Topo := Topo.v7x

variable {F : FTy → Type} [FloatOps F]
-- ==== Proof.ReferenceOps.lean ====
/- The reference's host operations in order, cut into named stretches: the means, the variances, the normalized rows,
   the softmax, the random words (twenty rounds of mixing with a key step after every four), the draws and the pick. -/
module

public import proofs.«01_k».proof.Proof.Gen.ReferenceIdeal
public import Idealize.ShloMosaic.Lib.StableHlo.RunHlo
public import Idealize.ShloMosaic.Lib.StableHlo.RunRead

@[expose] public section

set_option maxHeartbeats 4000000
set_option maxRecDepth 20000

noncomputable section

namespace Cert.ReferenceIdeal.Ops

open Idealize.ShloMosaic Idealize.SL.Sem Cert.ReferenceIdeal Facts₀ Facts

variable {F : FTy → Type} [FloatOps F]

/-- The operations of the column means. -/
def meanOps : List (HloOp τ sig (Elt F)) := [
  StableHlo.nullary main_cst (constant S_ .f32 0x00000000#32),
  StableHlo.binary main_arg0 main_cst main_v0 ((fun x v => Host.reduceAdd x v reducesTo_S1000000x4_S4_d0 h_S_) : (⟨S1000000x4, .f32⟩ : BufTy).Contents (Elt F) → (⟨S_, .f32⟩ : BufTy).Contents (Elt F) → (⟨S4, .f32⟩ : BufTy).Contents (Elt F)),
  StableHlo.unary main_v0 main_v1 (broadcastInDim S1x4 ![1] bcast_S4_S1x4_1 : (⟨S4, .f32⟩ : BufTy).Contents (Elt F) → (⟨S1x4, .f32⟩ : BufTy).Contents (Elt F)),
  StableHlo.nullary main_cst_0 (constant S_ .f32 0x49742400#32),
  StableHlo.unary main_cst_0 main_v2 (broadcastInDim S1x4 ![] bcast_S_S1x4 : (⟨S_, .f32⟩ : BufTy).Contents (Elt F) → (⟨S1x4, .f32⟩ : BufTy).Contents (Elt F)),
  StableHlo.binary main_v1 main_v2 main_v3 (Host.divf : (⟨S1x4, .f32⟩ : BufTy).Contents (Elt F) → (⟨S1x4, .f32⟩ : BufTy).Contents (Elt F) → (⟨S1x4, .f32⟩ : BufTy).Contents (Elt F)),
  StableHlo.nullary main_c (constantI S_ 32 0#32)]

/-- The operations of the column variances. -/
def varOps : List (HloOp τ sig (Elt F)) := [
  StableHlo.TRef.nullary main_call0.cst (constant S_ .f32 0x00000000#32),
  StableHlo.TRef.binary (.of main_arg0 : StableHlo.TRef sig ⟨S1000000x4, .f32⟩) main_call0.cst main_call0.v0 (fun x v => Host.reduceAdd x v reducesTo_S1000000x4_S4_d0 h_S_),
  StableHlo.TRef.unary main_call0.v0 main_call0.v1 (broadcastInDim S1x4 ![1] bcast_S4_S1x4_1),
  StableHlo.TRef.nullary main_call0.cst_0 (constant S_ .f32 0x49742400#32),
  StableHlo.TRef.unary main_call0.cst_0 main_call0.v2 (broadcastInDim S1x4 ![] bcast_S_S1x4),
  StableHlo.TRef.binary main_call0.v1 main_call0.v2 main_call0.v3 Host.divf,
  StableHlo.TRef.unary main_call0.v3 main_call0.v4 (broadcastInDim S1000000x4 ![0, 1] bcast_S1x4_S1000000x4_0_1),
  StableHlo.TRef.binary (.of main_arg0 : StableHlo.TRef sig ⟨S1000000x4, .f32⟩) main_call0.v4 main_call0.v5 subf,
  StableHlo.TRef.binary main_call0.v5 main_call0.v5 main_call0.v6 mulf,
  StableHlo.TRef.unary (.of main_c : StableHlo.TRef sig ⟨S_, .i32⟩) main_call0.v7 (sitofp .f32),
  StableHlo.TRef.nullary main_call0.cst_1 (constant S_ .f32 0x49742400#32),
  StableHlo.TRef.binary main_call0.cst_1 main_call0.v7 main_call0.v8 subf,
  StableHlo.TRef.nullary main_call0.cst_2 (constant S_ .f32 0x00000000#32),
  StableHlo.TRef.binary main_call0.v6 main_call0.cst_2 main_call0.v9 (fun x v => Host.reduceAdd x v reducesTo_S1000000x4_S4_d0 h_S_),
  StableHlo.TRef.unary main_call0.v9 main_call0.v10 (broadcastInDim S1x4 ![1] bcast_S4_S1x4_1),
  StableHlo.TRef.unary main_call0.v8 main_call0.v11 (broadcastInDim S1x4 ![] bcast_S_S1x4),
  StableHlo.TRef.binary main_call0.v10 main_call0.v11 main_call0.v12 Host.divf,
  StableHlo.TRef.nullary main_call0.cst_3 (constant S_ .f32 0x00000000#32),
  StableHlo.TRef.binary main_call0.v8 main_call0.cst_3 main_call0.v13 (cmpf .ogt),
  StableHlo.TRef.nullary main_call0.cst_4 (constant S_ .f32 0x7FC00000#32),
  StableHlo.TRef.unary main_call0.cst_4 main_call0.call0.v0 id,
  StableHlo.TRef.unary main_call0.call0.v0 main_call0.call0.v1 (broadcastInDim S1x4 ![] bcast_S_S1x4),
  StableHlo.TRef.ternary main_call0.v13 main_call0.v12 main_call0.call0.v1 main_call0.call0.v2 (fun p a b => select (broadcastInDim S1x4 ![] bcast_S_S1x4 p) a b)]

/-- The operations of the normalized rows, scaled and shifted. -/
def normOps : List (HloOp τ sig (Elt F)) := [
  StableHlo.unary main_v3 main_v5 (broadcastInDim S1000000x4 ![0, 1] bcast_S1x4_S1000000x4_0_1 : (⟨S1x4, .f32⟩ : BufTy).Contents (Elt F) → (⟨S1000000x4, .f32⟩ : BufTy).Contents (Elt F)),
  StableHlo.binary main_arg0 main_v5 main_v6 (subf : (⟨S1000000x4, .f32⟩ : BufTy).Contents (Elt F) → (⟨S1000000x4, .f32⟩ : BufTy).Contents (Elt F) → (⟨S1000000x4, .f32⟩ : BufTy).Contents (Elt F)),
  StableHlo.nullary main_cst_1 (constant S_ .f32 0x3727C5AC#32),
  StableHlo.unary main_cst_1 main_v7 (broadcastInDim S1x4 ![] bcast_S_S1x4 : (⟨S_, .f32⟩ : BufTy).Contents (Elt F) → (⟨S1x4, .f32⟩ : BufTy).Contents (Elt F)),
  StableHlo.binary main_v4 main_v7 main_v8 (addf : (⟨S1x4, .f32⟩ : BufTy).Contents (Elt F) → (⟨S1x4, .f32⟩ : BufTy).Contents (Elt F) → (⟨S1x4, .f32⟩ : BufTy).Contents (Elt F)),
  StableHlo.unary main_v8 main_v9 (Host.sqrt : (⟨S1x4, .f32⟩ : BufTy).Contents (Elt F) → (⟨S1x4, .f32⟩ : BufTy).Contents (Elt F)),
  StableHlo.unary main_v9 main_v10 (broadcastInDim S1000000x4 ![0, 1] bcast_S1x4_S1000000x4_0_1 : (⟨S1x4, .f32⟩ : BufTy).Contents (Elt F) → (⟨S1000000x4, .f32⟩ : BufTy).Contents (Elt F)),
  StableHlo.binary main_v6 main_v10 main_v11 (Host.divf : (⟨S1000000x4, .f32⟩ : BufTy).Contents (Elt F) → (⟨S1000000x4, .f32⟩ : BufTy).Contents (Elt F) → (⟨S1000000x4, .f32⟩ : BufTy).Contents (Elt F)),
  StableHlo.unary main_arg1 main_v12 (broadcastInDim S1x4 ![1] bcast_S4_S1x4_1 : (⟨S4, .f32⟩ : BufTy).Contents (Elt F) → (⟨S1x4, .f32⟩ : BufTy).Contents (Elt F)),
  StableHlo.unary main_v12 main_v13 (broadcastInDim S1000000x4 ![0, 1] bcast_S1x4_S1000000x4_0_1 : (⟨S1x4, .f32⟩ : BufTy).Contents (Elt F) → (⟨S1000000x4, .f32⟩ : BufTy).Contents (Elt F)),
  StableHlo.binary main_v11 main_v13 main_v14 (mulf : (⟨S1000000x4, .f32⟩ : BufTy).Contents (Elt F) → (⟨S1000000x4, .f32⟩ : BufTy).Contents (Elt F) → (⟨S1000000x4, .f32⟩ : BufTy).Contents (Elt F)),
  StableHlo.unary main_arg2 main_v15 (broadcastInDim S1x4 ![1] bcast_S4_S1x4_1 : (⟨S4, .f32⟩ : BufTy).Contents (Elt F) → (⟨S1x4, .f32⟩ : BufTy).Contents (Elt F)),
  StableHlo.unary main_v15 main_v16 (broadcastInDim S1000000x4 ![0, 1] bcast_S1x4_S1000000x4_0_1 : (⟨S1x4, .f32⟩ : BufTy).Contents (Elt F) → (⟨S1000000x4, .f32⟩ : BufTy).Contents (Elt F)),
  StableHlo.binary main_v14 main_v16 main_v17 (addf : (⟨S1000000x4, .f32⟩ : BufTy).Contents (Elt F) → (⟨S1000000x4, .f32⟩ : BufTy).Contents (Elt F) → (⟨S1000000x4, .f32⟩ : BufTy).Contents (Elt F))]

/-- The operations of the softmax of the rows. -/
def softOps : List (HloOp τ sig (Elt F)) := [
  StableHlo.nullary main_cst_2 (constant S_ .f32 0xFF800000#32),
  StableHlo.binary main_v17 main_cst_2 main_v18 ((fun x v => Host.reduce FloatOps.maximumf x v reducesTo_S1000000x4_S1000000_d1 h_S_) : (⟨S1000000x4, .f32⟩ : BufTy).Contents (Elt F) → (⟨S_, .f32⟩ : BufTy).Contents (Elt F) → (⟨S1000000, .f32⟩ : BufTy).Contents (Elt F)),
  StableHlo.nullary main_cst_3 (constant S_ .f32 0xFF800000#32),
  StableHlo.unary main_cst_3 main_v19 (broadcastInDim S1000000 ![] bcast_S_S1000000 : (⟨S_, .f32⟩ : BufTy).Contents (Elt F) → (⟨S1000000, .f32⟩ : BufTy).Contents (Elt F)),
  StableHlo.binary main_v19 main_v18 main_v20 (maximumf : (⟨S1000000, .f32⟩ : BufTy).Contents (Elt F) → (⟨S1000000, .f32⟩ : BufTy).Contents (Elt F) → (⟨S1000000, .f32⟩ : BufTy).Contents (Elt F)),
  StableHlo.unary main_v20 main_v21 (broadcastInDim S1000000x1 ![0] bcast_S1000000_S1000000x1_0 : (⟨S1000000, .f32⟩ : BufTy).Contents (Elt F) → (⟨S1000000x1, .f32⟩ : BufTy).Contents (Elt F)),
  StableHlo.unary main_v21 main_v22 (broadcastInDim S1000000x4 ![0, 1] bcast_S1000000x1_S1000000x4_0_1 : (⟨S1000000x1, .f32⟩ : BufTy).Contents (Elt F) → (⟨S1000000x4, .f32⟩ : BufTy).Contents (Elt F)),
  StableHlo.binary main_v17 main_v22 main_v23 (subf : (⟨S1000000x4, .f32⟩ : BufTy).Contents (Elt F) → (⟨S1000000x4, .f32⟩ : BufTy).Contents (Elt F) → (⟨S1000000x4, .f32⟩ : BufTy).Contents (Elt F)),
  StableHlo.unary main_v23 main_v24 (Host.exp : (⟨S1000000x4, .f32⟩ : BufTy).Contents (Elt F) → (⟨S1000000x4, .f32⟩ : BufTy).Contents (Elt F)),
  StableHlo.nullary main_cst_4 (constant S_ .f32 0x00000000#32),
  StableHlo.binary main_v24 main_cst_4 main_v25 ((fun x v => Host.reduceAdd x v reducesTo_S1000000x4_S1000000_d1 h_S_) : (⟨S1000000x4, .f32⟩ : BufTy).Contents (Elt F) → (⟨S_, .f32⟩ : BufTy).Contents (Elt F) → (⟨S1000000, .f32⟩ : BufTy).Contents (Elt F)),
  StableHlo.unary main_v25 main_v26 (broadcastInDim S1000000x1 ![0] bcast_S1000000_S1000000x1_0 : (⟨S1000000, .f32⟩ : BufTy).Contents (Elt F) → (⟨S1000000x1, .f32⟩ : BufTy).Contents (Elt F)),
  StableHlo.unary main_v26 main_v27 (broadcastInDim S1000000x4 ![0, 1] bcast_S1000000x1_S1000000x4_0_1 : (⟨S1000000x1, .f32⟩ : BufTy).Contents (Elt F) → (⟨S1000000x4, .f32⟩ : BufTy).Contents (Elt F)),
  StableHlo.binary main_v24 main_v27 main_v28 (Host.divf : (⟨S1000000x4, .f32⟩ : BufTy).Contents (Elt F) → (⟨S1000000x4, .f32⟩ : BufTy).Contents (Elt F) → (⟨S1000000x4, .f32⟩ : BufTy).Contents (Elt F))]

/-- The operations of the two words of the key. -/
def keyOps : List (HloOp τ sig (Elt F)) := [
  StableHlo.nullary main_c_5 (constantI S_ 32 42#32),
  StableHlo.nullary main_c_6 (constantI S_ 32 32#32),
  StableHlo.binary main_c_5 main_c_6 main_v29 (Host.shrui : (⟨S_, .i32⟩ : BufTy).Contents (Elt F) → (⟨S_, .i32⟩ : BufTy).Contents (Elt F) → (⟨S_, .i32⟩ : BufTy).Contents (Elt F)),
  StableHlo.unary main_v29 main_v30 (id : (⟨S_, .i32⟩ : BufTy).Contents (Elt F) → (⟨S_, .i32⟩ : BufTy).Contents (Elt F)),
  StableHlo.unary main_v30 main_v31 (broadcastInDim S1 ![] bcast_S_S1 : (⟨S_, .i32⟩ : BufTy).Contents (Elt F) → (⟨S1, .i32⟩ : BufTy).Contents (Elt F)),
  StableHlo.nullary main_c_7 (constantI S_ 32 4294967295#32),
  StableHlo.binary main_c_5 main_c_7 main_v32 (andi : (⟨S_, .i32⟩ : BufTy).Contents (Elt F) → (⟨S_, .i32⟩ : BufTy).Contents (Elt F) → (⟨S_, .i32⟩ : BufTy).Contents (Elt F)),
  StableHlo.unary main_v32 main_v33 (id : (⟨S_, .i32⟩ : BufTy).Contents (Elt F) → (⟨S_, .i32⟩ : BufTy).Contents (Elt F)),
  StableHlo.unary main_v33 main_v34 (broadcastInDim S1 ![] bcast_S_S1 : (⟨S_, .i32⟩ : BufTy).Contents (Elt F) → (⟨S1, .i32⟩ : BufTy).Contents (Elt F)),
  StableHlo.binary main_v31 main_v34 main_v35 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.unary main_v35 main_v36 ((extractStridedSlice S1 ![0] · slices_S2_S1_0) : (⟨S2, .i32⟩ : BufTy).Contents (Elt F) → (⟨S1, .i32⟩ : BufTy).Contents (Elt F)),
  StableHlo.reshape main_v36 main_v37 (rfl : (.i32 : EltTy) = .i32) shapeCasts_S1_S_,
  StableHlo.unary main_v35 main_v38 ((extractStridedSlice S1 ![1] · slices_S2_S1_1) : (⟨S2, .i32⟩ : BufTy).Contents (Elt F) → (⟨S1, .i32⟩ : BufTy).Contents (Elt F)),
  StableHlo.reshape main_v38 main_v39 (rfl : (.i32 : EltTy) = .i32) shapeCasts_S1_S_]

/-- The operations of the two words of the counters. -/
def countOps : List (HloOp τ sig (Elt F)) := [
  StableHlo.nullary main_v40 (iotaInDim S1000000x4 64 0),
  StableHlo.nullary main_v41 (iotaInDim S1000000x4 64 1),
  StableHlo.nullary main_c_8 (constantI S_ 64 4#64),
  StableHlo.unary main_c_8 main_v42 (broadcastInDim S1000000x4 ![] bcast_S_S1000000x4 : (⟨S_, .i64⟩ : BufTy).Contents (Elt F) → (⟨S1000000x4, .i64⟩ : BufTy).Contents (Elt F)),
  StableHlo.binary main_v42 main_v40 main_v43 (muli : (⟨S1000000x4, .i64⟩ : BufTy).Contents (Elt F) → (⟨S1000000x4, .i64⟩ : BufTy).Contents (Elt F) → (⟨S1000000x4, .i64⟩ : BufTy).Contents (Elt F)),
  StableHlo.nullary main_c_9 (constantI S_ 64 1#64),
  StableHlo.unary main_c_9 main_v44 (broadcastInDim S1000000x4 ![] bcast_S_S1000000x4 : (⟨S_, .i64⟩ : BufTy).Contents (Elt F) → (⟨S1000000x4, .i64⟩ : BufTy).Contents (Elt F)),
  StableHlo.binary main_v44 main_v41 main_v45 (muli : (⟨S1000000x4, .i64⟩ : BufTy).Contents (Elt F) → (⟨S1000000x4, .i64⟩ : BufTy).Contents (Elt F) → (⟨S1000000x4, .i64⟩ : BufTy).Contents (Elt F)),
  StableHlo.binary main_v43 main_v45 main_v46 (addi : (⟨S1000000x4, .i64⟩ : BufTy).Contents (Elt F) → (⟨S1000000x4, .i64⟩ : BufTy).Contents (Elt F) → (⟨S1000000x4, .i64⟩ : BufTy).Contents (Elt F)),
  StableHlo.nullary main_c_10 (constantI S_ 64 32#64),
  StableHlo.unary main_c_10 main_v47 (broadcastInDim S1000000x4 ![] bcast_S_S1000000x4 : (⟨S_, .i64⟩ : BufTy).Contents (Elt F) → (⟨S1000000x4, .i64⟩ : BufTy).Contents (Elt F)),
  StableHlo.binary main_v46 main_v47 main_v48 (Host.shrui : (⟨S1000000x4, .i64⟩ : BufTy).Contents (Elt F) → (⟨S1000000x4, .i64⟩ : BufTy).Contents (Elt F) → (⟨S1000000x4, .i64⟩ : BufTy).Contents (Elt F)),
  StableHlo.unary main_v46 main_v49 ((trunci 32 · natLt_32_64) : (⟨S1000000x4, .i64⟩ : BufTy).Contents (Elt F) → (⟨S1000000x4, .i32⟩ : BufTy).Contents (Elt F)),
  StableHlo.unary main_v48 main_v50 ((trunci 32 · natLt_32_64) : (⟨S1000000x4, .i64⟩ : BufTy).Contents (Elt F) → (⟨S1000000x4, .i32⟩ : BufTy).Contents (Elt F))]

/-- The operations of the counters with the key added. -/
def startOps : List (HloOp τ sig (Elt F)) := [
  StableHlo.TRef.binary (.of main_v37 : StableHlo.TRef sig ⟨S_, .i32⟩) (.of main_v39 : StableHlo.TRef sig ⟨S_, .i32⟩) main_call1.v0 xori,
  StableHlo.TRef.nullary main_call1.c (constantI S_ 32 466688986#32),
  StableHlo.TRef.binary main_call1.v0 main_call1.c main_call1.v1 xori,
  StableHlo.TRef.unary (.of main_v37 : StableHlo.TRef sig ⟨S_, .i32⟩) main_call1.v2 (broadcastInDim S1000000x4 ![] bcast_S_S1000000x4),
  StableHlo.TRef.binary (.of main_v50 : StableHlo.TRef sig ⟨S1000000x4, .i32⟩) main_call1.v2 main_call1.v3 addi,
  StableHlo.TRef.unary (.of main_v39 : StableHlo.TRef sig ⟨S_, .i32⟩) main_call1.v4 (broadcastInDim S1000000x4 ![] bcast_S_S1000000x4),
  StableHlo.TRef.binary (.of main_v49 : StableHlo.TRef sig ⟨S1000000x4, .i32⟩) main_call1.v4 main_call1.v5 addi]

/-- The operations of round 1 of the mixing. -/
def round1 : List (HloOp τ sig (Elt F)) := [
  StableHlo.TRef.binary main_call1.v3 main_call1.v5 main_call1.v6 addi,
  StableHlo.TRef.nullary main_call1.c_0 (constantI S_ 32 13#32),
  StableHlo.TRef.unary main_call1.c_0 main_call1.v7 (broadcastInDim S1000000x4 ![] bcast_S_S1000000x4),
  StableHlo.TRef.binary main_call1.v5 main_call1.v7 main_call1.v8 Host.shli,
  StableHlo.TRef.nullary main_call1.c_1 (constantI S_ 32 19#32),
  StableHlo.TRef.unary main_call1.c_1 main_call1.v9 (broadcastInDim S1000000x4 ![] bcast_S_S1000000x4),
  StableHlo.TRef.binary main_call1.v5 main_call1.v9 main_call1.v10 Host.shrui,
  StableHlo.TRef.binary main_call1.v8 main_call1.v10 main_call1.v11 ori,
  StableHlo.TRef.binary main_call1.v6 main_call1.v11 main_call1.v12 xori]

/-- The operations of round 2 of the mixing. -/
def round2 : List (HloOp τ sig (Elt F)) := [
  StableHlo.TRef.binary main_call1.v6 main_call1.v12 main_call1.v13 addi,
  StableHlo.TRef.nullary main_call1.c_2 (constantI S_ 32 15#32),
  StableHlo.TRef.unary main_call1.c_2 main_call1.v14 (broadcastInDim S1000000x4 ![] bcast_S_S1000000x4),
  StableHlo.TRef.binary main_call1.v12 main_call1.v14 main_call1.v15 Host.shli,
  StableHlo.TRef.nullary main_call1.c_3 (constantI S_ 32 17#32),
  StableHlo.TRef.unary main_call1.c_3 main_call1.v16 (broadcastInDim S1000000x4 ![] bcast_S_S1000000x4),
  StableHlo.TRef.binary main_call1.v12 main_call1.v16 main_call1.v17 Host.shrui,
  StableHlo.TRef.binary main_call1.v15 main_call1.v17 main_call1.v18 ori,
  StableHlo.TRef.binary main_call1.v13 main_call1.v18 main_call1.v19 xori]

/-- The operations of round 3 of the mixing. -/
def round3 : List (HloOp τ sig (Elt F)) := [
  StableHlo.TRef.binary main_call1.v13 main_call1.v19 main_call1.v20 addi,
  StableHlo.TRef.nullary main_call1.c_4 (constantI S_ 32 26#32),
  StableHlo.TRef.unary main_call1.c_4 main_call1.v21 (broadcastInDim S1000000x4 ![] bcast_S_S1000000x4),
  StableHlo.TRef.binary main_call1.v19 main_call1.v21 main_call1.v22 Host.shli,
  StableHlo.TRef.nullary main_call1.c_5 (constantI S_ 32 6#32),
  StableHlo.TRef.unary main_call1.c_5 main_call1.v23 (broadcastInDim S1000000x4 ![] bcast_S_S1000000x4),
  StableHlo.TRef.binary main_call1.v19 main_call1.v23 main_call1.v24 Host.shrui,
  StableHlo.TRef.binary main_call1.v22 main_call1.v24 main_call1.v25 ori,
  StableHlo.TRef.binary main_call1.v20 main_call1.v25 main_call1.v26 xori]

/-- The operations of round 4 of the mixing. -/
def round4 : List (HloOp τ sig (Elt F)) := [
  StableHlo.TRef.binary main_call1.v20 main_call1.v26 main_call1.v27 addi,
  StableHlo.TRef.nullary main_call1.c_6 (constantI S_ 32 6#32),
  StableHlo.TRef.unary main_call1.c_6 main_call1.v28 (broadcastInDim S1000000x4 ![] bcast_S_S1000000x4),
  StableHlo.TRef.binary main_call1.v26 main_call1.v28 main_call1.v29 Host.shli,
  StableHlo.TRef.nullary main_call1.c_7 (constantI S_ 32 26#32),
  StableHlo.TRef.unary main_call1.c_7 main_call1.v30 (broadcastInDim S1000000x4 ![] bcast_S_S1000000x4),
  StableHlo.TRef.binary main_call1.v26 main_call1.v30 main_call1.v31 Host.shrui,
  StableHlo.TRef.binary main_call1.v29 main_call1.v31 main_call1.v32 ori,
  StableHlo.TRef.binary main_call1.v27 main_call1.v32 main_call1.v33 xori]

/-- The operations of the key schedule's step 1. -/
def inject1 : List (HloOp τ sig (Elt F)) := [
  StableHlo.TRef.unary (.of main_v39 : StableHlo.TRef sig ⟨S_, .i32⟩) main_call1.v34 (broadcastInDim S1000000x4 ![] bcast_S_S1000000x4),
  StableHlo.TRef.binary main_call1.v27 main_call1.v34 main_call1.v35 addi,
  StableHlo.TRef.unary main_call1.v1 main_call1.v36 (broadcastInDim S1000000x4 ![] bcast_S_S1000000x4),
  StableHlo.TRef.binary main_call1.v33 main_call1.v36 main_call1.v37 addi,
  StableHlo.TRef.nullary main_call1.c_8 (constantI S_ 32 1#32),
  StableHlo.TRef.unary main_call1.c_8 main_call1.v38 (broadcastInDim S1000000x4 ![] bcast_S_S1000000x4),
  StableHlo.TRef.binary main_call1.v37 main_call1.v38 main_call1.v39 addi]

/-- The operations of round 5 of the mixing. -/
def round5 : List (HloOp τ sig (Elt F)) := [
  StableHlo.TRef.binary main_call1.v35 main_call1.v39 main_call1.v40 addi,
  StableHlo.TRef.nullary main_call1.c_9 (constantI S_ 32 17#32),
  StableHlo.TRef.unary main_call1.c_9 main_call1.v41 (broadcastInDim S1000000x4 ![] bcast_S_S1000000x4),
  StableHlo.TRef.binary main_call1.v39 main_call1.v41 main_call1.v42 Host.shli,
  StableHlo.TRef.nullary main_call1.c_10 (constantI S_ 32 15#32),
  StableHlo.TRef.unary main_call1.c_10 main_call1.v43 (broadcastInDim S1000000x4 ![] bcast_S_S1000000x4),
  StableHlo.TRef.binary main_call1.v39 main_call1.v43 main_call1.v44 Host.shrui,
  StableHlo.TRef.binary main_call1.v42 main_call1.v44 main_call1.v45 ori,
  StableHlo.TRef.binary main_call1.v40 main_call1.v45 main_call1.v46 xori]

/-- The operations of round 6 of the mixing. -/
def round6 : List (HloOp τ sig (Elt F)) := [
  StableHlo.TRef.binary main_call1.v40 main_call1.v46 main_call1.v47 addi,
  StableHlo.TRef.nullary main_call1.c_11 (constantI S_ 32 29#32),
  StableHlo.TRef.unary main_call1.c_11 main_call1.v48 (broadcastInDim S1000000x4 ![] bcast_S_S1000000x4),
  StableHlo.TRef.binary main_call1.v46 main_call1.v48 main_call1.v49 Host.shli,
  StableHlo.TRef.nullary main_call1.c_12 (constantI S_ 32 3#32),
  StableHlo.TRef.unary main_call1.c_12 main_call1.v50 (broadcastInDim S1000000x4 ![] bcast_S_S1000000x4),
  StableHlo.TRef.binary main_call1.v46 main_call1.v50 main_call1.v51 Host.shrui,
  StableHlo.TRef.binary main_call1.v49 main_call1.v51 main_call1.v52 ori,
  StableHlo.TRef.binary main_call1.v47 main_call1.v52 main_call1.v53 xori]

/-- The operations of round 7 of the mixing. -/
def round7 : List (HloOp τ sig (Elt F)) := [
  StableHlo.TRef.binary main_call1.v47 main_call1.v53 main_call1.v54 addi,
  StableHlo.TRef.nullary main_call1.c_13 (constantI S_ 32 16#32),
  StableHlo.TRef.unary main_call1.c_13 main_call1.v55 (broadcastInDim S1000000x4 ![] bcast_S_S1000000x4),
  StableHlo.TRef.binary main_call1.v53 main_call1.v55 main_call1.v56 Host.shli,
  StableHlo.TRef.nullary main_call1.c_14 (constantI S_ 32 16#32),
  StableHlo.TRef.unary main_call1.c_14 main_call1.v57 (broadcastInDim S1000000x4 ![] bcast_S_S1000000x4),
  StableHlo.TRef.binary main_call1.v53 main_call1.v57 main_call1.v58 Host.shrui,
  StableHlo.TRef.binary main_call1.v56 main_call1.v58 main_call1.v59 ori,
  StableHlo.TRef.binary main_call1.v54 main_call1.v59 main_call1.v60 xori]

/-- The operations of round 8 of the mixing. -/
def round8 : List (HloOp τ sig (Elt F)) := [
  StableHlo.TRef.binary main_call1.v54 main_call1.v60 main_call1.v61 addi,
  StableHlo.TRef.nullary main_call1.c_15 (constantI S_ 32 24#32),
  StableHlo.TRef.unary main_call1.c_15 main_call1.v62 (broadcastInDim S1000000x4 ![] bcast_S_S1000000x4),
  StableHlo.TRef.binary main_call1.v60 main_call1.v62 main_call1.v63 Host.shli,
  StableHlo.TRef.nullary main_call1.c_16 (constantI S_ 32 8#32),
  StableHlo.TRef.unary main_call1.c_16 main_call1.v64 (broadcastInDim S1000000x4 ![] bcast_S_S1000000x4),
  StableHlo.TRef.binary main_call1.v60 main_call1.v64 main_call1.v65 Host.shrui,
  StableHlo.TRef.binary main_call1.v63 main_call1.v65 main_call1.v66 ori,
  StableHlo.TRef.binary main_call1.v61 main_call1.v66 main_call1.v67 xori]

/-- The operations of the key schedule's step 2. -/
def inject2 : List (HloOp τ sig (Elt F)) := [
  StableHlo.TRef.unary main_call1.v1 main_call1.v68 (broadcastInDim S1000000x4 ![] bcast_S_S1000000x4),
  StableHlo.TRef.binary main_call1.v61 main_call1.v68 main_call1.v69 addi,
  StableHlo.TRef.unary (.of main_v37 : StableHlo.TRef sig ⟨S_, .i32⟩) main_call1.v70 (broadcastInDim S1000000x4 ![] bcast_S_S1000000x4),
  StableHlo.TRef.binary main_call1.v67 main_call1.v70 main_call1.v71 addi,
  StableHlo.TRef.nullary main_call1.c_17 (constantI S_ 32 2#32),
  StableHlo.TRef.unary main_call1.c_17 main_call1.v72 (broadcastInDim S1000000x4 ![] bcast_S_S1000000x4),
  StableHlo.TRef.binary main_call1.v71 main_call1.v72 main_call1.v73 addi]

/-- The operations of round 9 of the mixing. -/
def round9 : List (HloOp τ sig (Elt F)) := [
  StableHlo.TRef.binary main_call1.v69 main_call1.v73 main_call1.v74 addi,
  StableHlo.TRef.nullary main_call1.c_18 (constantI S_ 32 13#32),
  StableHlo.TRef.unary main_call1.c_18 main_call1.v75 (broadcastInDim S1000000x4 ![] bcast_S_S1000000x4),
  StableHlo.TRef.binary main_call1.v73 main_call1.v75 main_call1.v76 Host.shli,
  StableHlo.TRef.nullary main_call1.c_19 (constantI S_ 32 19#32),
  StableHlo.TRef.unary main_call1.c_19 main_call1.v77 (broadcastInDim S1000000x4 ![] bcast_S_S1000000x4),
  StableHlo.TRef.binary main_call1.v73 main_call1.v77 main_call1.v78 Host.shrui,
  StableHlo.TRef.binary main_call1.v76 main_call1.v78 main_call1.v79 ori,
  StableHlo.TRef.binary main_call1.v74 main_call1.v79 main_call1.v80 xori]

/-- The operations of round 10 of the mixing. -/
def round10 : List (HloOp τ sig (Elt F)) := [
  StableHlo.TRef.binary main_call1.v74 main_call1.v80 main_call1.v81 addi,
  StableHlo.TRef.nullary main_call1.c_20 (constantI S_ 32 15#32),
  StableHlo.TRef.unary main_call1.c_20 main_call1.v82 (broadcastInDim S1000000x4 ![] bcast_S_S1000000x4),
  StableHlo.TRef.binary main_call1.v80 main_call1.v82 main_call1.v83 Host.shli,
  StableHlo.TRef.nullary main_call1.c_21 (constantI S_ 32 17#32),
  StableHlo.TRef.unary main_call1.c_21 main_call1.v84 (broadcastInDim S1000000x4 ![] bcast_S_S1000000x4),
  StableHlo.TRef.binary main_call1.v80 main_call1.v84 main_call1.v85 Host.shrui,
  StableHlo.TRef.binary main_call1.v83 main_call1.v85 main_call1.v86 ori,
  StableHlo.TRef.binary main_call1.v81 main_call1.v86 main_call1.v87 xori]

/-- The operations of round 11 of the mixing. -/
def round11 : List (HloOp τ sig (Elt F)) := [
  StableHlo.TRef.binary main_call1.v81 main_call1.v87 main_call1.v88 addi,
  StableHlo.TRef.nullary main_call1.c_22 (constantI S_ 32 26#32),
  StableHlo.TRef.unary main_call1.c_22 main_call1.v89 (broadcastInDim S1000000x4 ![] bcast_S_S1000000x4),
  StableHlo.TRef.binary main_call1.v87 main_call1.v89 main_call1.v90 Host.shli,
  StableHlo.TRef.nullary main_call1.c_23 (constantI S_ 32 6#32),
  StableHlo.TRef.unary main_call1.c_23 main_call1.v91 (broadcastInDim S1000000x4 ![] bcast_S_S1000000x4),
  StableHlo.TRef.binary main_call1.v87 main_call1.v91 main_call1.v92 Host.shrui,
  StableHlo.TRef.binary main_call1.v90 main_call1.v92 main_call1.v93 ori,
  StableHlo.TRef.binary main_call1.v88 main_call1.v93 main_call1.v94 xori]

/-- The operations of round 12 of the mixing. -/
def round12 : List (HloOp τ sig (Elt F)) := [
  StableHlo.TRef.binary main_call1.v88 main_call1.v94 main_call1.v95 addi,
  StableHlo.TRef.nullary main_call1.c_24 (constantI S_ 32 6#32),
  StableHlo.TRef.unary main_call1.c_24 main_call1.v96 (broadcastInDim S1000000x4 ![] bcast_S_S1000000x4),
  StableHlo.TRef.binary main_call1.v94 main_call1.v96 main_call1.v97 Host.shli,
  StableHlo.TRef.nullary main_call1.c_25 (constantI S_ 32 26#32),
  StableHlo.TRef.unary main_call1.c_25 main_call1.v98 (broadcastInDim S1000000x4 ![] bcast_S_S1000000x4),
  StableHlo.TRef.binary main_call1.v94 main_call1.v98 main_call1.v99 Host.shrui,
  StableHlo.TRef.binary main_call1.v97 main_call1.v99 main_call1.v100 ori,
  StableHlo.TRef.binary main_call1.v95 main_call1.v100 main_call1.v101 xori]

/-- The operations of the key schedule's step 3. -/
def inject3 : List (HloOp τ sig (Elt F)) := [
  StableHlo.TRef.unary (.of main_v37 : StableHlo.TRef sig ⟨S_, .i32⟩) main_call1.v102 (broadcastInDim S1000000x4 ![] bcast_S_S1000000x4),
  StableHlo.TRef.binary main_call1.v95 main_call1.v102 main_call1.v103 addi,
  StableHlo.TRef.unary (.of main_v39 : StableHlo.TRef sig ⟨S_, .i32⟩) main_call1.v104 (broadcastInDim S1000000x4 ![] bcast_S_S1000000x4),
  StableHlo.TRef.binary main_call1.v101 main_call1.v104 main_call1.v105 addi,
  StableHlo.TRef.nullary main_call1.c_26 (constantI S_ 32 3#32),
  StableHlo.TRef.unary main_call1.c_26 main_call1.v106 (broadcastInDim S1000000x4 ![] bcast_S_S1000000x4),
  StableHlo.TRef.binary main_call1.v105 main_call1.v106 main_call1.v107 addi]

/-- The operations of round 13 of the mixing. -/
def round13 : List (HloOp τ sig (Elt F)) := [
  StableHlo.TRef.binary main_call1.v103 main_call1.v107 main_call1.v108 addi,
  StableHlo.TRef.nullary main_call1.c_27 (constantI S_ 32 17#32),
  StableHlo.TRef.unary main_call1.c_27 main_call1.v109 (broadcastInDim S1000000x4 ![] bcast_S_S1000000x4),
  StableHlo.TRef.binary main_call1.v107 main_call1.v109 main_call1.v110 Host.shli,
  StableHlo.TRef.nullary main_call1.c_28 (constantI S_ 32 15#32),
  StableHlo.TRef.unary main_call1.c_28 main_call1.v111 (broadcastInDim S1000000x4 ![] bcast_S_S1000000x4),
  StableHlo.TRef.binary main_call1.v107 main_call1.v111 main_call1.v112 Host.shrui,
  StableHlo.TRef.binary main_call1.v110 main_call1.v112 main_call1.v113 ori,
  StableHlo.TRef.binary main_call1.v108 main_call1.v113 main_call1.v114 xori]

/-- The operations of round 14 of the mixing. -/
def round14 : List (HloOp τ sig (Elt F)) := [
  StableHlo.TRef.binary main_call1.v108 main_call1.v114 main_call1.v115 addi,
  StableHlo.TRef.nullary main_call1.c_29 (constantI S_ 32 29#32),
  StableHlo.TRef.unary main_call1.c_29 main_call1.v116 (broadcastInDim S1000000x4 ![] bcast_S_S1000000x4),
  StableHlo.TRef.binary main_call1.v114 main_call1.v116 main_call1.v117 Host.shli,
  StableHlo.TRef.nullary main_call1.c_30 (constantI S_ 32 3#32),
  StableHlo.TRef.unary main_call1.c_30 main_call1.v118 (broadcastInDim S1000000x4 ![] bcast_S_S1000000x4),
  StableHlo.TRef.binary main_call1.v114 main_call1.v118 main_call1.v119 Host.shrui,
  StableHlo.TRef.binary main_call1.v117 main_call1.v119 main_call1.v120 ori,
  StableHlo.TRef.binary main_call1.v115 main_call1.v120 main_call1.v121 xori]

/-- The operations of round 15 of the mixing. -/
def round15 : List (HloOp τ sig (Elt F)) := [
  StableHlo.TRef.binary main_call1.v115 main_call1.v121 main_call1.v122 addi,
  StableHlo.TRef.nullary main_call1.c_31 (constantI S_ 32 16#32),
  StableHlo.TRef.unary main_call1.c_31 main_call1.v123 (broadcastInDim S1000000x4 ![] bcast_S_S1000000x4),
  StableHlo.TRef.binary main_call1.v121 main_call1.v123 main_call1.v124 Host.shli,
  StableHlo.TRef.nullary main_call1.c_32 (constantI S_ 32 16#32),
  StableHlo.TRef.unary main_call1.c_32 main_call1.v125 (broadcastInDim S1000000x4 ![] bcast_S_S1000000x4),
  StableHlo.TRef.binary main_call1.v121 main_call1.v125 main_call1.v126 Host.shrui,
  StableHlo.TRef.binary main_call1.v124 main_call1.v126 main_call1.v127 ori,
  StableHlo.TRef.binary main_call1.v122 main_call1.v127 main_call1.v128 xori]

/-- The operations of round 16 of the mixing. -/
def round16 : List (HloOp τ sig (Elt F)) := [
  StableHlo.TRef.binary main_call1.v122 main_call1.v128 main_call1.v129 addi,
  StableHlo.TRef.nullary main_call1.c_33 (constantI S_ 32 24#32),
  StableHlo.TRef.unary main_call1.c_33 main_call1.v130 (broadcastInDim S1000000x4 ![] bcast_S_S1000000x4),
  StableHlo.TRef.binary main_call1.v128 main_call1.v130 main_call1.v131 Host.shli,
  StableHlo.TRef.nullary main_call1.c_34 (constantI S_ 32 8#32),
  StableHlo.TRef.unary main_call1.c_34 main_call1.v132 (broadcastInDim S1000000x4 ![] bcast_S_S1000000x4),
  StableHlo.TRef.binary main_call1.v128 main_call1.v132 main_call1.v133 Host.shrui,
  StableHlo.TRef.binary main_call1.v131 main_call1.v133 main_call1.v134 ori,
  StableHlo.TRef.binary main_call1.v129 main_call1.v134 main_call1.v135 xori]

/-- The operations of the key schedule's step 4. -/
def inject4 : List (HloOp τ sig (Elt F)) := [
  StableHlo.TRef.unary (.of main_v39 : StableHlo.TRef sig ⟨S_, .i32⟩) main_call1.v136 (broadcastInDim S1000000x4 ![] bcast_S_S1000000x4),
  StableHlo.TRef.binary main_call1.v129 main_call1.v136 main_call1.v137 addi,
  StableHlo.TRef.unary main_call1.v1 main_call1.v138 (broadcastInDim S1000000x4 ![] bcast_S_S1000000x4),
  StableHlo.TRef.binary main_call1.v135 main_call1.v138 main_call1.v139 addi,
  StableHlo.TRef.nullary main_call1.c_35 (constantI S_ 32 4#32),
  StableHlo.TRef.unary main_call1.c_35 main_call1.v140 (broadcastInDim S1000000x4 ![] bcast_S_S1000000x4),
  StableHlo.TRef.binary main_call1.v139 main_call1.v140 main_call1.v141 addi]

/-- The operations of round 17 of the mixing. -/
def round17 : List (HloOp τ sig (Elt F)) := [
  StableHlo.TRef.binary main_call1.v137 main_call1.v141 main_call1.v142 addi,
  StableHlo.TRef.nullary main_call1.c_36 (constantI S_ 32 13#32),
  StableHlo.TRef.unary main_call1.c_36 main_call1.v143 (broadcastInDim S1000000x4 ![] bcast_S_S1000000x4),
  StableHlo.TRef.binary main_call1.v141 main_call1.v143 main_call1.v144 Host.shli,
  StableHlo.TRef.nullary main_call1.c_37 (constantI S_ 32 19#32),
  StableHlo.TRef.unary main_call1.c_37 main_call1.v145 (broadcastInDim S1000000x4 ![] bcast_S_S1000000x4),
  StableHlo.TRef.binary main_call1.v141 main_call1.v145 main_call1.v146 Host.shrui,
  StableHlo.TRef.binary main_call1.v144 main_call1.v146 main_call1.v147 ori,
  StableHlo.TRef.binary main_call1.v142 main_call1.v147 main_call1.v148 xori]

/-- The operations of round 18 of the mixing. -/
def round18 : List (HloOp τ sig (Elt F)) := [
  StableHlo.TRef.binary main_call1.v142 main_call1.v148 main_call1.v149 addi,
  StableHlo.TRef.nullary main_call1.c_38 (constantI S_ 32 15#32),
  StableHlo.TRef.unary main_call1.c_38 main_call1.v150 (broadcastInDim S1000000x4 ![] bcast_S_S1000000x4),
  StableHlo.TRef.binary main_call1.v148 main_call1.v150 main_call1.v151 Host.shli,
  StableHlo.TRef.nullary main_call1.c_39 (constantI S_ 32 17#32),
  StableHlo.TRef.unary main_call1.c_39 main_call1.v152 (broadcastInDim S1000000x4 ![] bcast_S_S1000000x4),
  StableHlo.TRef.binary main_call1.v148 main_call1.v152 main_call1.v153 Host.shrui,
  StableHlo.TRef.binary main_call1.v151 main_call1.v153 main_call1.v154 ori,
  StableHlo.TRef.binary main_call1.v149 main_call1.v154 main_call1.v155 xori]

/-- The operations of round 19 of the mixing. -/
def round19 : List (HloOp τ sig (Elt F)) := [
  StableHlo.TRef.binary main_call1.v149 main_call1.v155 main_call1.v156 addi,
  StableHlo.TRef.nullary main_call1.c_40 (constantI S_ 32 26#32),
  StableHlo.TRef.unary main_call1.c_40 main_call1.v157 (broadcastInDim S1000000x4 ![] bcast_S_S1000000x4),
  StableHlo.TRef.binary main_call1.v155 main_call1.v157 main_call1.v158 Host.shli,
  StableHlo.TRef.nullary main_call1.c_41 (constantI S_ 32 6#32),
  StableHlo.TRef.unary main_call1.c_41 main_call1.v159 (broadcastInDim S1000000x4 ![] bcast_S_S1000000x4),
  StableHlo.TRef.binary main_call1.v155 main_call1.v159 main_call1.v160 Host.shrui,
  StableHlo.TRef.binary main_call1.v158 main_call1.v160 main_call1.v161 ori,
  StableHlo.TRef.binary main_call1.v156 main_call1.v161 main_call1.v162 xori]

/-- The operations of round 20 of the mixing. -/
def round20 : List (HloOp τ sig (Elt F)) := [
  StableHlo.TRef.binary main_call1.v156 main_call1.v162 main_call1.v163 addi,
  StableHlo.TRef.nullary main_call1.c_42 (constantI S_ 32 6#32),
  StableHlo.TRef.unary main_call1.c_42 main_call1.v164 (broadcastInDim S1000000x4 ![] bcast_S_S1000000x4),
  StableHlo.TRef.binary main_call1.v162 main_call1.v164 main_call1.v165 Host.shli,
  StableHlo.TRef.nullary main_call1.c_43 (constantI S_ 32 26#32),
  StableHlo.TRef.unary main_call1.c_43 main_call1.v166 (broadcastInDim S1000000x4 ![] bcast_S_S1000000x4),
  StableHlo.TRef.binary main_call1.v162 main_call1.v166 main_call1.v167 Host.shrui,
  StableHlo.TRef.binary main_call1.v165 main_call1.v167 main_call1.v168 ori,
  StableHlo.TRef.binary main_call1.v163 main_call1.v168 main_call1.v169 xori]

/-- The operations of the key schedule's step 5. -/
def inject5 : List (HloOp τ sig (Elt F)) := [
  StableHlo.TRef.unary main_call1.v1 main_call1.v170 (broadcastInDim S1000000x4 ![] bcast_S_S1000000x4),
  StableHlo.TRef.binary main_call1.v163 main_call1.v170 main_call1.v171 addi,
  StableHlo.TRef.unary (.of main_v37 : StableHlo.TRef sig ⟨S_, .i32⟩) main_call1.v172 (broadcastInDim S1000000x4 ![] bcast_S_S1000000x4),
  StableHlo.TRef.binary main_call1.v169 main_call1.v172 main_call1.v173 addi,
  StableHlo.TRef.nullary main_call1.c_44 (constantI S_ 32 5#32),
  StableHlo.TRef.unary main_call1.c_44 main_call1.v174 (broadcastInDim S1000000x4 ![] bcast_S_S1000000x4),
  StableHlo.TRef.binary main_call1.v173 main_call1.v174 main_call1.v175 addi]

/-- The operations of the Gumbel draws. -/
def drawOps : List (HloOp τ sig (Elt F)) := [
  StableHlo.binary main_v51_0 main_v51_1 main_v52 (xori : (⟨S1000000x4, .i32⟩ : BufTy).Contents (Elt F) → (⟨S1000000x4, .i32⟩ : BufTy).Contents (Elt F) → (⟨S1000000x4, .i32⟩ : BufTy).Contents (Elt F)),
  StableHlo.nullary main_c_11 (constantI S_ 32 9#32),
  StableHlo.unary main_c_11 main_v53 (broadcastInDim S1000000x4 ![] bcast_S_S1000000x4 : (⟨S_, .i32⟩ : BufTy).Contents (Elt F) → (⟨S1000000x4, .i32⟩ : BufTy).Contents (Elt F)),
  StableHlo.binary main_v52 main_v53 main_v54 (Host.shrui : (⟨S1000000x4, .i32⟩ : BufTy).Contents (Elt F) → (⟨S1000000x4, .i32⟩ : BufTy).Contents (Elt F) → (⟨S1000000x4, .i32⟩ : BufTy).Contents (Elt F)),
  StableHlo.nullary main_c_12 (constantI S_ 32 1065353216#32),
  StableHlo.unary main_c_12 main_v55 (broadcastInDim S1000000x4 ![] bcast_S_S1000000x4 : (⟨S_, .i32⟩ : BufTy).Contents (Elt F) → (⟨S1000000x4, .i32⟩ : BufTy).Contents (Elt F)),
  StableHlo.binary main_v54 main_v55 main_v56 (ori : (⟨S1000000x4, .i32⟩ : BufTy).Contents (Elt F) → (⟨S1000000x4, .i32⟩ : BufTy).Contents (Elt F) → (⟨S1000000x4, .i32⟩ : BufTy).Contents (Elt F)),
  StableHlo.unary main_v56 main_v57 (bitcastToFloat .f32 : (⟨S1000000x4, .i32⟩ : BufTy).Contents (Elt F) → (⟨S1000000x4, .f32⟩ : BufTy).Contents (Elt F)),
  StableHlo.nullary main_cst_13 (constant S_ .f32 0x3F800000#32),
  StableHlo.unary main_cst_13 main_v58 (broadcastInDim S1000000x4 ![] bcast_S_S1000000x4 : (⟨S_, .f32⟩ : BufTy).Contents (Elt F) → (⟨S1000000x4, .f32⟩ : BufTy).Contents (Elt F)),
  StableHlo.binary main_v57 main_v58 main_v59 (subf : (⟨S1000000x4, .f32⟩ : BufTy).Contents (Elt F) → (⟨S1000000x4, .f32⟩ : BufTy).Contents (Elt F) → (⟨S1000000x4, .f32⟩ : BufTy).Contents (Elt F)),
  StableHlo.nullary main_cst_14 (constant S_ .f32 0x3F800000#32),
  StableHlo.unary main_cst_14 main_v60 (broadcastInDim S1000000x4 ![] bcast_S_S1000000x4 : (⟨S_, .f32⟩ : BufTy).Contents (Elt F) → (⟨S1000000x4, .f32⟩ : BufTy).Contents (Elt F)),
  StableHlo.binary main_v59 main_v60 main_v61 (mulf : (⟨S1000000x4, .f32⟩ : BufTy).Contents (Elt F) → (⟨S1000000x4, .f32⟩ : BufTy).Contents (Elt F) → (⟨S1000000x4, .f32⟩ : BufTy).Contents (Elt F)),
  StableHlo.nullary main_cst_15 (constant S_ .f32 0x00800000#32),
  StableHlo.unary main_cst_15 main_v62 (broadcastInDim S1000000x4 ![] bcast_S_S1000000x4 : (⟨S_, .f32⟩ : BufTy).Contents (Elt F) → (⟨S1000000x4, .f32⟩ : BufTy).Contents (Elt F)),
  StableHlo.binary main_v61 main_v62 main_v63 (addf : (⟨S1000000x4, .f32⟩ : BufTy).Contents (Elt F) → (⟨S1000000x4, .f32⟩ : BufTy).Contents (Elt F) → (⟨S1000000x4, .f32⟩ : BufTy).Contents (Elt F)),
  StableHlo.nullary main_cst_16 (constant S_ .f32 0x00800000#32),
  StableHlo.unary main_cst_16 main_v64 (broadcastInDim S1000000x4 ![] bcast_S_S1000000x4 : (⟨S_, .f32⟩ : BufTy).Contents (Elt F) → (⟨S1000000x4, .f32⟩ : BufTy).Contents (Elt F)),
  StableHlo.binary main_v64 main_v63 main_v65 (maximumf : (⟨S1000000x4, .f32⟩ : BufTy).Contents (Elt F) → (⟨S1000000x4, .f32⟩ : BufTy).Contents (Elt F) → (⟨S1000000x4, .f32⟩ : BufTy).Contents (Elt F)),
  StableHlo.unary main_v65 main_v66 (Host.log : (⟨S1000000x4, .f32⟩ : BufTy).Contents (Elt F) → (⟨S1000000x4, .f32⟩ : BufTy).Contents (Elt F)),
  StableHlo.unary main_v66 main_v67 (Host.negf : (⟨S1000000x4, .f32⟩ : BufTy).Contents (Elt F) → (⟨S1000000x4, .f32⟩ : BufTy).Contents (Elt F)),
  StableHlo.unary main_v67 main_v68 (Host.log : (⟨S1000000x4, .f32⟩ : BufTy).Contents (Elt F) → (⟨S1000000x4, .f32⟩ : BufTy).Contents (Elt F)),
  StableHlo.unary main_v68 main_v69 (Host.negf : (⟨S1000000x4, .f32⟩ : BufTy).Contents (Elt F) → (⟨S1000000x4, .f32⟩ : BufTy).Contents (Elt F))]

/-- The operations of the class picked in every row, and the first result. -/
def pickOps : List (HloOp τ sig (Elt F)) := [
  StableHlo.binary main_v69 main_v17 main_v70 (addf : (⟨S1000000x4, .f32⟩ : BufTy).Contents (Elt F) → (⟨S1000000x4, .f32⟩ : BufTy).Contents (Elt F) → (⟨S1000000x4, .f32⟩ : BufTy).Contents (Elt F)),
  StableHlo.TRef.nullary main_call2.v0 (iotaInDim S1000000x4 32 1),
  StableHlo.TRef.nullary main_call2.cst (constant S_ .f32 0xFF800000#32),
  StableHlo.TRef.nullary main_call2.c (constantI S_ 32 0#32),
  StableHlo.TRef.quaternary (.of main_v70 : StableHlo.TRef sig ⟨S1000000x4, .f32⟩) main_call2.v0 main_call2.cst main_call2.c main_call2.v1_0 (fun x y u v j => (Host.argReduce reducer_argmax_f32_i32 x y u v reducesTo_S1000000x4_S1000000_d1 h_S_ j).1),
  StableHlo.TRef.quaternary (.of main_v70 : StableHlo.TRef sig ⟨S1000000x4, .f32⟩) main_call2.v0 main_call2.cst main_call2.c main_call2.v1_1 (fun x y u v j => (Host.argReduce reducer_argmax_f32_i32 x y u v reducesTo_S1000000x4_S1000000_d1 h_S_ j).2),
  StableHlo.TRef.unary (.of main_v71 : StableHlo.TRef sig ⟨S1000000, .i32⟩) main_call3.v0 (broadcastInDim S1000000x1 ![0] bcast_S1000000_S1000000x1_0),
  StableHlo.TRef.nullary main_call3.v1 (iotaInDim S1x4 32 1),
  StableHlo.TRef.unary main_call3.v0 main_call3.v2 (broadcastInDim S1000000x4 ![0, 1] bcast_S1000000x1_S1000000x4_0_1),
  StableHlo.TRef.unary main_call3.v1 main_call3.v3 (broadcastInDim S1000000x4 ![0, 1] bcast_S1x4_S1000000x4_0_1),
  StableHlo.TRef.binary main_call3.v2 main_call3.v3 main_call3.v4 (cmpi .eq),
  StableHlo.TRef.unary main_call3.v4 main_call3.v5 (uitofp .f32),
  StableHlo.binary main_v72 main_v28 main_v73 (subf : (⟨S1000000x4, .f32⟩ : BufTy).Contents (Elt F) → (⟨S1000000x4, .f32⟩ : BufTy).Contents (Elt F) → (⟨S1000000x4, .f32⟩ : BufTy).Contents (Elt F)),
  StableHlo.binary main_v73 main_v28 main_v74 (addf : (⟨S1000000x4, .f32⟩ : BufTy).Contents (Elt F) → (⟨S1000000x4, .f32⟩ : BufTy).Contents (Elt F) → (⟨S1000000x4, .f32⟩ : BufTy).Contents (Elt F))]

/-- The operations of the random words. -/
def mixOps : List (HloOp τ sig (Elt F)) :=
  startOps ++ (round1 ++ (round2 ++ (round3 ++ (round4 ++ (inject1 ++ (round5 ++ (round6 ++ (round7 ++ (round8 ++ (inject2 ++ (round9 ++ (round10 ++ (round11 ++ (round12 ++ (inject3 ++ (round13 ++ (round14 ++ (round15 ++ (round16 ++ (inject4 ++ (round17 ++ (round18 ++ (round19 ++ (round20 ++ (inject5)))))))))))))))))))))))))

/-- All operations of the reference. -/
def ops : List (HloOp τ sig (Elt F)) :=
  meanOps ++ (varOps ++ (normOps ++ (softOps ++ (keyOps ++ (countOps ++ (mixOps ++ (drawOps ++ (pickOps))))))))

/-- The reference is the straight line of its operations. -/
theorem main_eq (d : Dev nD) : main (F := F) d = StableHlo.seq ops := by
  rfl

end Cert.ReferenceIdeal.Ops

end
-- ==== Proof.ReferenceMix.lean ====
/- The reference's run: it is the straight line of its operations, leaves its arguments as launched, and leaves in its two
   results the operations' values. The random words are followed round by round. -/
module

public import proofs.«01_k».proof.Proof.ReferenceOps
public import Idealize.ShloMosaic.Lib.Quiescent
public import Idealize.ShloMosaic.Lib.Pipeline.Frame

@[expose] public section

set_option maxHeartbeats 4000000
set_option maxRecDepth 20000

noncomputable section

namespace Cert.ReferenceIdeal.Ops

open Idealize.ShloMosaic Idealize.SL.Sem Idealize.ShloMosaic.StableHlo Cert.ReferenceIdeal Facts₀ Facts

variable {F : FTy → Type} [FloatOps F]

/-- One round of the mixing: the first word takes the sum, the second is turned left and joined with it. -/
def rnd (r s : BitVec 32) (p : IVec S1000000x4 32 × IVec S1000000x4 32) : IVec S1000000x4 32 × IVec S1000000x4 32 :=
  (addi p.1 p.2, xori (addi p.1 p.2) (ori
    (Host.shli p.2 (broadcastInDim S1000000x4 ![] bcast_S_S1000000x4 (constantI S_ 32 r)))
    (Host.shrui p.2 (broadcastInDim S1000000x4 ![] bcast_S_S1000000x4 (constantI S_ 32 s)))))

/-- One step of the key schedule: a key word is added to each of the two words, and the step's number to the second. -/
def inj (a b n : BitVec 32) (p : IVec S1000000x4 32 × IVec S1000000x4 32) : IVec S1000000x4 32 × IVec S1000000x4 32 :=
  (addi p.1 (broadcastInDim S1000000x4 ![] bcast_S_S1000000x4 (constantI S_ 32 a)),
   addi (addi p.2 (broadcastInDim S1000000x4 ![] bcast_S_S1000000x4 (constantI S_ 32 b)))
    (broadcastInDim S1000000x4 ![] bcast_S_S1000000x4 (constantI S_ 32 n)))

/-- The three key words, where the mixing reads them. -/
def Keys (V : Valuation τ sig (Elt F)) : Prop :=
  V (Proc.devRef .tc main_v37) = (constantI S_ 32 0#32 : IVec S_ 32)
    ∧ V (Proc.devRef .tc main_v39) = (constantI S_ 32 42#32 : IVec S_ 32)
    ∧ V (Proc.devRef .tc main_call1_v1) = (constantI S_ 32 466689008#32 : IVec S_ 32)

/-- round1: the two words after it, from the two words before it. -/
theorem round1_at {V : Valuation τ sig (Elt F)} {p : IVec S1000000x4 32 × IVec S1000000x4 32} (hK : Keys V)
    (hx : V (Proc.devRef .tc main_call1_v3) = p.1) (hy : V (Proc.devRef .tc main_call1_v5) = p.2) :
    Keys (after round1 V) ∧ after round1 V (Proc.devRef .tc main_call1_v6) = (rnd 13#32 19#32 p).1
      ∧ after round1 V (Proc.devRef .tc main_call1_v12) = (rnd 13#32 19#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round2: the two words after it, from the two words before it. -/
theorem round2_at {V : Valuation τ sig (Elt F)} {p : IVec S1000000x4 32 × IVec S1000000x4 32} (hK : Keys V)
    (hx : V (Proc.devRef .tc main_call1_v6) = p.1) (hy : V (Proc.devRef .tc main_call1_v12) = p.2) :
    Keys (after round2 V) ∧ after round2 V (Proc.devRef .tc main_call1_v13) = (rnd 15#32 17#32 p).1
      ∧ after round2 V (Proc.devRef .tc main_call1_v19) = (rnd 15#32 17#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round3: the two words after it, from the two words before it. -/
theorem round3_at {V : Valuation τ sig (Elt F)} {p : IVec S1000000x4 32 × IVec S1000000x4 32} (hK : Keys V)
    (hx : V (Proc.devRef .tc main_call1_v13) = p.1) (hy : V (Proc.devRef .tc main_call1_v19) = p.2) :
    Keys (after round3 V) ∧ after round3 V (Proc.devRef .tc main_call1_v20) = (rnd 26#32 6#32 p).1
      ∧ after round3 V (Proc.devRef .tc main_call1_v26) = (rnd 26#32 6#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round4: the two words after it, from the two words before it. -/
theorem round4_at {V : Valuation τ sig (Elt F)} {p : IVec S1000000x4 32 × IVec S1000000x4 32} (hK : Keys V)
    (hx : V (Proc.devRef .tc main_call1_v20) = p.1) (hy : V (Proc.devRef .tc main_call1_v26) = p.2) :
    Keys (after round4 V) ∧ after round4 V (Proc.devRef .tc main_call1_v27) = (rnd 6#32 26#32 p).1
      ∧ after round4 V (Proc.devRef .tc main_call1_v33) = (rnd 6#32 26#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- inject1: the two words after it, from the two words before it. -/
theorem inject1_at {V : Valuation τ sig (Elt F)} {p : IVec S1000000x4 32 × IVec S1000000x4 32} (hK : Keys V)
    (hx : V (Proc.devRef .tc main_call1_v27) = p.1) (hy : V (Proc.devRef .tc main_call1_v33) = p.2) :
    Keys (after inject1 V) ∧ after inject1 V (Proc.devRef .tc main_call1_v35) = (inj 42#32 466689008#32 1#32 p).1
      ∧ after inject1 V (Proc.devRef .tc main_call1_v39) = (inj 42#32 466689008#32 1#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round5: the two words after it, from the two words before it. -/
theorem round5_at {V : Valuation τ sig (Elt F)} {p : IVec S1000000x4 32 × IVec S1000000x4 32} (hK : Keys V)
    (hx : V (Proc.devRef .tc main_call1_v35) = p.1) (hy : V (Proc.devRef .tc main_call1_v39) = p.2) :
    Keys (after round5 V) ∧ after round5 V (Proc.devRef .tc main_call1_v40) = (rnd 17#32 15#32 p).1
      ∧ after round5 V (Proc.devRef .tc main_call1_v46) = (rnd 17#32 15#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round6: the two words after it, from the two words before it. -/
theorem round6_at {V : Valuation τ sig (Elt F)} {p : IVec S1000000x4 32 × IVec S1000000x4 32} (hK : Keys V)
    (hx : V (Proc.devRef .tc main_call1_v40) = p.1) (hy : V (Proc.devRef .tc main_call1_v46) = p.2) :
    Keys (after round6 V) ∧ after round6 V (Proc.devRef .tc main_call1_v47) = (rnd 29#32 3#32 p).1
      ∧ after round6 V (Proc.devRef .tc main_call1_v53) = (rnd 29#32 3#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round7: the two words after it, from the two words before it. -/
theorem round7_at {V : Valuation τ sig (Elt F)} {p : IVec S1000000x4 32 × IVec S1000000x4 32} (hK : Keys V)
    (hx : V (Proc.devRef .tc main_call1_v47) = p.1) (hy : V (Proc.devRef .tc main_call1_v53) = p.2) :
    Keys (after round7 V) ∧ after round7 V (Proc.devRef .tc main_call1_v54) = (rnd 16#32 16#32 p).1
      ∧ after round7 V (Proc.devRef .tc main_call1_v60) = (rnd 16#32 16#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round8: the two words after it, from the two words before it. -/
theorem round8_at {V : Valuation τ sig (Elt F)} {p : IVec S1000000x4 32 × IVec S1000000x4 32} (hK : Keys V)
    (hx : V (Proc.devRef .tc main_call1_v54) = p.1) (hy : V (Proc.devRef .tc main_call1_v60) = p.2) :
    Keys (after round8 V) ∧ after round8 V (Proc.devRef .tc main_call1_v61) = (rnd 24#32 8#32 p).1
      ∧ after round8 V (Proc.devRef .tc main_call1_v67) = (rnd 24#32 8#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- inject2: the two words after it, from the two words before it. -/
theorem inject2_at {V : Valuation τ sig (Elt F)} {p : IVec S1000000x4 32 × IVec S1000000x4 32} (hK : Keys V)
    (hx : V (Proc.devRef .tc main_call1_v61) = p.1) (hy : V (Proc.devRef .tc main_call1_v67) = p.2) :
    Keys (after inject2 V) ∧ after inject2 V (Proc.devRef .tc main_call1_v69) = (inj 466689008#32 0#32 2#32 p).1
      ∧ after inject2 V (Proc.devRef .tc main_call1_v73) = (inj 466689008#32 0#32 2#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round9: the two words after it, from the two words before it. -/
theorem round9_at {V : Valuation τ sig (Elt F)} {p : IVec S1000000x4 32 × IVec S1000000x4 32} (hK : Keys V)
    (hx : V (Proc.devRef .tc main_call1_v69) = p.1) (hy : V (Proc.devRef .tc main_call1_v73) = p.2) :
    Keys (after round9 V) ∧ after round9 V (Proc.devRef .tc main_call1_v74) = (rnd 13#32 19#32 p).1
      ∧ after round9 V (Proc.devRef .tc main_call1_v80) = (rnd 13#32 19#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round10: the two words after it, from the two words before it. -/
theorem round10_at {V : Valuation τ sig (Elt F)} {p : IVec S1000000x4 32 × IVec S1000000x4 32} (hK : Keys V)
    (hx : V (Proc.devRef .tc main_call1_v74) = p.1) (hy : V (Proc.devRef .tc main_call1_v80) = p.2) :
    Keys (after round10 V) ∧ after round10 V (Proc.devRef .tc main_call1_v81) = (rnd 15#32 17#32 p).1
      ∧ after round10 V (Proc.devRef .tc main_call1_v87) = (rnd 15#32 17#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round11: the two words after it, from the two words before it. -/
theorem round11_at {V : Valuation τ sig (Elt F)} {p : IVec S1000000x4 32 × IVec S1000000x4 32} (hK : Keys V)
    (hx : V (Proc.devRef .tc main_call1_v81) = p.1) (hy : V (Proc.devRef .tc main_call1_v87) = p.2) :
    Keys (after round11 V) ∧ after round11 V (Proc.devRef .tc main_call1_v88) = (rnd 26#32 6#32 p).1
      ∧ after round11 V (Proc.devRef .tc main_call1_v94) = (rnd 26#32 6#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round12: the two words after it, from the two words before it. -/
theorem round12_at {V : Valuation τ sig (Elt F)} {p : IVec S1000000x4 32 × IVec S1000000x4 32} (hK : Keys V)
    (hx : V (Proc.devRef .tc main_call1_v88) = p.1) (hy : V (Proc.devRef .tc main_call1_v94) = p.2) :
    Keys (after round12 V) ∧ after round12 V (Proc.devRef .tc main_call1_v95) = (rnd 6#32 26#32 p).1
      ∧ after round12 V (Proc.devRef .tc main_call1_v101) = (rnd 6#32 26#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- inject3: the two words after it, from the two words before it. -/
theorem inject3_at {V : Valuation τ sig (Elt F)} {p : IVec S1000000x4 32 × IVec S1000000x4 32} (hK : Keys V)
    (hx : V (Proc.devRef .tc main_call1_v95) = p.1) (hy : V (Proc.devRef .tc main_call1_v101) = p.2) :
    Keys (after inject3 V) ∧ after inject3 V (Proc.devRef .tc main_call1_v103) = (inj 0#32 42#32 3#32 p).1
      ∧ after inject3 V (Proc.devRef .tc main_call1_v107) = (inj 0#32 42#32 3#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round13: the two words after it, from the two words before it. -/
theorem round13_at {V : Valuation τ sig (Elt F)} {p : IVec S1000000x4 32 × IVec S1000000x4 32} (hK : Keys V)
    (hx : V (Proc.devRef .tc main_call1_v103) = p.1) (hy : V (Proc.devRef .tc main_call1_v107) = p.2) :
    Keys (after round13 V) ∧ after round13 V (Proc.devRef .tc main_call1_v108) = (rnd 17#32 15#32 p).1
      ∧ after round13 V (Proc.devRef .tc main_call1_v114) = (rnd 17#32 15#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round14: the two words after it, from the two words before it. -/
theorem round14_at {V : Valuation τ sig (Elt F)} {p : IVec S1000000x4 32 × IVec S1000000x4 32} (hK : Keys V)
    (hx : V (Proc.devRef .tc main_call1_v108) = p.1) (hy : V (Proc.devRef .tc main_call1_v114) = p.2) :
    Keys (after round14 V) ∧ after round14 V (Proc.devRef .tc main_call1_v115) = (rnd 29#32 3#32 p).1
      ∧ after round14 V (Proc.devRef .tc main_call1_v121) = (rnd 29#32 3#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round15: the two words after it, from the two words before it. -/
theorem round15_at {V : Valuation τ sig (Elt F)} {p : IVec S1000000x4 32 × IVec S1000000x4 32} (hK : Keys V)
    (hx : V (Proc.devRef .tc main_call1_v115) = p.1) (hy : V (Proc.devRef .tc main_call1_v121) = p.2) :
    Keys (after round15 V) ∧ after round15 V (Proc.devRef .tc main_call1_v122) = (rnd 16#32 16#32 p).1
      ∧ after round15 V (Proc.devRef .tc main_call1_v128) = (rnd 16#32 16#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round16: the two words after it, from the two words before it. -/
theorem round16_at {V : Valuation τ sig (Elt F)} {p : IVec S1000000x4 32 × IVec S1000000x4 32} (hK : Keys V)
    (hx : V (Proc.devRef .tc main_call1_v122) = p.1) (hy : V (Proc.devRef .tc main_call1_v128) = p.2) :
    Keys (after round16 V) ∧ after round16 V (Proc.devRef .tc main_call1_v129) = (rnd 24#32 8#32 p).1
      ∧ after round16 V (Proc.devRef .tc main_call1_v135) = (rnd 24#32 8#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- inject4: the two words after it, from the two words before it. -/
theorem inject4_at {V : Valuation τ sig (Elt F)} {p : IVec S1000000x4 32 × IVec S1000000x4 32} (hK : Keys V)
    (hx : V (Proc.devRef .tc main_call1_v129) = p.1) (hy : V (Proc.devRef .tc main_call1_v135) = p.2) :
    Keys (after inject4 V) ∧ after inject4 V (Proc.devRef .tc main_call1_v137) = (inj 42#32 466689008#32 4#32 p).1
      ∧ after inject4 V (Proc.devRef .tc main_call1_v141) = (inj 42#32 466689008#32 4#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round17: the two words after it, from the two words before it. -/
theorem round17_at {V : Valuation τ sig (Elt F)} {p : IVec S1000000x4 32 × IVec S1000000x4 32} (hK : Keys V)
    (hx : V (Proc.devRef .tc main_call1_v137) = p.1) (hy : V (Proc.devRef .tc main_call1_v141) = p.2) :
    Keys (after round17 V) ∧ after round17 V (Proc.devRef .tc main_call1_v142) = (rnd 13#32 19#32 p).1
      ∧ after round17 V (Proc.devRef .tc main_call1_v148) = (rnd 13#32 19#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round18: the two words after it, from the two words before it. -/
theorem round18_at {V : Valuation τ sig (Elt F)} {p : IVec S1000000x4 32 × IVec S1000000x4 32} (hK : Keys V)
    (hx : V (Proc.devRef .tc main_call1_v142) = p.1) (hy : V (Proc.devRef .tc main_call1_v148) = p.2) :
    Keys (after round18 V) ∧ after round18 V (Proc.devRef .tc main_call1_v149) = (rnd 15#32 17#32 p).1
      ∧ after round18 V (Proc.devRef .tc main_call1_v155) = (rnd 15#32 17#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round19: the two words after it, from the two words before it. -/
theorem round19_at {V : Valuation τ sig (Elt F)} {p : IVec S1000000x4 32 × IVec S1000000x4 32} (hK : Keys V)
    (hx : V (Proc.devRef .tc main_call1_v149) = p.1) (hy : V (Proc.devRef .tc main_call1_v155) = p.2) :
    Keys (after round19 V) ∧ after round19 V (Proc.devRef .tc main_call1_v156) = (rnd 26#32 6#32 p).1
      ∧ after round19 V (Proc.devRef .tc main_call1_v162) = (rnd 26#32 6#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- round20: the two words after it, from the two words before it. -/
theorem round20_at {V : Valuation τ sig (Elt F)} {p : IVec S1000000x4 32 × IVec S1000000x4 32} (hK : Keys V)
    (hx : V (Proc.devRef .tc main_call1_v156) = p.1) (hy : V (Proc.devRef .tc main_call1_v162) = p.2) :
    Keys (after round20 V) ∧ after round20 V (Proc.devRef .tc main_call1_v163) = (rnd 6#32 26#32 p).1
      ∧ after round20 V (Proc.devRef .tc main_call1_v169) = (rnd 6#32 26#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- inject5: the two words after it, from the two words before it. -/
theorem inject5_at {V : Valuation τ sig (Elt F)} {p : IVec S1000000x4 32 × IVec S1000000x4 32} (hK : Keys V)
    (hx : V (Proc.devRef .tc main_call1_v163) = p.1) (hy : V (Proc.devRef .tc main_call1_v169) = p.2) :
    Keys (after inject5 V) ∧ after inject5 V (Proc.devRef .tc main_v51_0) = (inj 466689008#32 0#32 5#32 p).1
      ∧ after inject5 V (Proc.devRef .tc main_v51_1) = (inj 466689008#32 0#32 5#32 p).2 := by
  obtain ⟨h0, h1, h2⟩ := hK
  refine ⟨⟨?_, ?_, ?_⟩, ?_, ?_⟩ <;> after_reads_simp
  · exact h0
  · exact h1
  · exact h2
  all_goals simp only [h0, h1, h2, hx, hy]; rfl

/-- The twenty rounds and five key steps. -/
def mix (p : IVec S1000000x4 32 × IVec S1000000x4 32) : IVec S1000000x4 32 × IVec S1000000x4 32 :=
  inj 466689008#32 0#32 5#32 (rnd 6#32 26#32 (rnd 26#32 6#32 (rnd 15#32 17#32 (rnd 13#32 19#32 (inj 42#32 466689008#32 4#32 (rnd 24#32 8#32 (rnd 16#32 16#32 (rnd 29#32 3#32 (rnd 17#32 15#32 (inj 0#32 42#32 3#32 (rnd 6#32 26#32 (rnd 26#32 6#32 (rnd 15#32 17#32 (rnd 13#32 19#32 (inj 466689008#32 0#32 2#32 (rnd 24#32 8#32 (rnd 16#32 16#32 (rnd 29#32 3#32 (rnd 17#32 15#32 (inj 42#32 466689008#32 1#32 (rnd 6#32 26#32 (rnd 26#32 6#32 (rnd 15#32 17#32 (rnd 13#32 19#32 p))))))))))))))))))))))))

/-- The two random words, from the two counter words and the key. -/
theorem mix_at {V : Valuation τ sig (Elt F)} (h37 : V (Proc.devRef .tc main_v37) = (constantI S_ 32 0#32 : IVec S_ 32))
    (h39 : V (Proc.devRef .tc main_v39) = (constantI S_ 32 42#32 : IVec S_ 32))
    {hi lo : IVec S1000000x4 32} (hh : V (Proc.devRef .tc main_v50) = hi) (hl : V (Proc.devRef .tc main_v49) = lo) :
    after mixOps V (Proc.devRef .tc main_v51_0) = (mix
        (addi hi (broadcastInDim S1000000x4 ![] bcast_S_S1000000x4 (constantI S_ 32 0#32)),
         addi lo (broadcastInDim S1000000x4 ![] bcast_S_S1000000x4 (constantI S_ 32 42#32)))).1
      ∧ after mixOps V (Proc.devRef .tc main_v51_1) = (mix
        (addi hi (broadcastInDim S1000000x4 ![] bcast_S_S1000000x4 (constantI S_ 32 0#32)),
         addi lo (broadcastInDim S1000000x4 ![] bcast_S_S1000000x4 (constantI S_ 32 42#32)))).2 := by
  have s0 : Keys (after startOps V) ∧ after startOps V (Proc.devRef .tc main_call1_v3) =
        (addi hi (broadcastInDim S1000000x4 ![] bcast_S_S1000000x4 (constantI S_ 32 0#32)) : IVec S1000000x4 32)
      ∧ after startOps V (Proc.devRef .tc main_call1_v5) =
        (addi lo (broadcastInDim S1000000x4 ![] bcast_S_S1000000x4 (constantI S_ 32 42#32)) : IVec S1000000x4 32) := by
    refine ⟨⟨?_, ?_, ?_⟩, ?_, ?_⟩ <;> after_reads_simp
    · exact h37
    · exact h39
    · simp only [h37, h39]
      show xori (xori (constantI S_ 32 0#32) (constantI S_ 32 42#32)) (constantI S_ 32 466688986#32)
        = (constantI S_ 32 466689008#32 : IVec S_ 32)
      funext j
      exact (by decide : (0#32 ^^^ 42#32) ^^^ 466688986#32 = 466689008#32)
    all_goals simp only [h37, h39, hh, hl]; rfl
  obtain ⟨k0, x0, y0⟩ := s0
  have e0 := (round1_at (p := (_, _)) k0 x0 y0)
  have e1 := round2_at e0.1 e0.2.1 e0.2.2
  have e2 := round3_at e1.1 e1.2.1 e1.2.2
  have e3 := round4_at e2.1 e2.2.1 e2.2.2
  have e4 := inject1_at e3.1 e3.2.1 e3.2.2
  have e5 := round5_at e4.1 e4.2.1 e4.2.2
  have e6 := round6_at e5.1 e5.2.1 e5.2.2
  have e7 := round7_at e6.1 e6.2.1 e6.2.2
  have e8 := round8_at e7.1 e7.2.1 e7.2.2
  have e9 := inject2_at e8.1 e8.2.1 e8.2.2
  have e10 := round9_at e9.1 e9.2.1 e9.2.2
  have e11 := round10_at e10.1 e10.2.1 e10.2.2
  have e12 := round11_at e11.1 e11.2.1 e11.2.2
  have e13 := round12_at e12.1 e12.2.1 e12.2.2
  have e14 := inject3_at e13.1 e13.2.1 e13.2.2
  have e15 := round13_at e14.1 e14.2.1 e14.2.2
  have e16 := round14_at e15.1 e15.2.1 e15.2.2
  have e17 := round15_at e16.1 e16.2.1 e16.2.2
  have e18 := round16_at e17.1 e17.2.1 e17.2.2
  have e19 := inject4_at e18.1 e18.2.1 e18.2.2
  have e20 := round17_at e19.1 e19.2.1 e19.2.2
  have e21 := round18_at e20.1 e20.2.1 e20.2.2
  have e22 := round19_at e21.1 e21.2.1 e21.2.2
  have e23 := round20_at e22.1 e22.2.1 e22.2.2
  have e24 := inject5_at e23.1 e23.2.1 e23.2.2
  simp only [mixOps, StableHlo.after_append]
  exact e24.2

end Cert.ReferenceIdeal.Ops

end
-- ==== Proof.ReferenceRun.lean ====
/- The reference's run: its two results as closed functions of its arguments, its arguments as launched, and no semaphore
   left counting. -/
module

public import proofs.«01_k».proof.Proof.ReferenceMix
public import Idealize.ShloMosaic.Lib.Pointwise

@[expose] public section

set_option maxHeartbeats 4000000
set_option maxRecDepth 20000

noncomputable section

namespace Cert.ReferenceIdeal.Ops

open Idealize.ShloMosaic Idealize.SL.Sem Idealize.ShloMosaic.StableHlo Cert.ReferenceIdeal Facts₀ Facts

variable {F : FTy → Type} [FloatOps F]

/-- The column means. -/
def mean (x : FVec F S1000000x4 .f32) : FVec F S1x4 .f32 :=
  Host.divf (broadcastInDim S1x4 ![1] bcast_S4_S1x4_1
      (Host.reduceAdd x (constant S_ .f32 0x00000000#32) reducesTo_S1000000x4_S4_d0 h_S_))
    (broadcastInDim S1x4 ![] bcast_S_S1x4 (constant S_ .f32 0x49742400#32))

/-- The deviations from the column means. -/
def dev (x : FVec F S1000000x4 .f32) : FVec F S1000000x4 .f32 :=
  subf x (broadcastInDim S1000000x4 ![0, 1] bcast_S1x4_S1000000x4_0_1 (mean x))

/-- The number the squared deviations are divided by: the number of rows less nothing. -/
def dof : FVec F S_ .f32 := subf (constant S_ .f32 0x49742400#32) (sitofp .f32 (constantI S_ 32 0#32))

/-- The column variances, not a number where the divisor is not positive. -/
def var (x : FVec F S1000000x4 .f32) : FVec F S1x4 .f32 :=
  select (broadcastInDim S1x4 ![] bcast_S_S1x4 (cmpf .ogt (dof (F := F)) (constant S_ .f32 0x00000000#32)))
    (Host.divf (broadcastInDim S1x4 ![1] bcast_S4_S1x4_1
        (Host.reduceAdd (mulf (dev x) (dev x)) (constant S_ .f32 0x00000000#32) reducesTo_S1000000x4_S4_d0 h_S_))
      (broadcastInDim S1x4 ![] bcast_S_S1x4 (dof (F := F))))
    (broadcastInDim S1x4 ![] bcast_S_S1x4 (id (constant S_ .f32 0x7FC00000#32)))

/-- The normalized rows, scaled and shifted: the second result. -/
def norm (x : FVec F S1000000x4 .f32) (g b : FVec F S4 .f32) : FVec F S1000000x4 .f32 :=
  addf (mulf (Host.divf (dev x)
      (broadcastInDim S1000000x4 ![0, 1] bcast_S1x4_S1000000x4_0_1
        (Host.sqrt (addf (var x) (broadcastInDim S1x4 ![] bcast_S_S1x4 (constant S_ .f32 0x3727C5AC#32))))))
      (broadcastInDim S1000000x4 ![0, 1] bcast_S1x4_S1000000x4_0_1 (broadcastInDim S1x4 ![1] bcast_S4_S1x4_1 g)))
    (broadcastInDim S1000000x4 ![0, 1] bcast_S1x4_S1000000x4_0_1 (broadcastInDim S1x4 ![1] bcast_S4_S1x4_1 b))

/-- The exponentials of the rows less their maxima. -/
def expo (y : FVec F S1000000x4 .f32) : FVec F S1000000x4 .f32 :=
  Host.exp (subf y (broadcastInDim S1000000x4 ![0, 1] bcast_S1000000x1_S1000000x4_0_1
    (broadcastInDim S1000000x1 ![0] bcast_S1000000_S1000000x1_0
      (maximumf (broadcastInDim S1000000 ![] bcast_S_S1000000 (constant S_ .f32 0xFF800000#32))
        (Host.reduce FloatOps.maximumf y (constant S_ .f32 0xFF800000#32) reducesTo_S1000000x4_S1000000_d1 h_S_)))))

/-- The softmax of the rows. -/
def soft (y : FVec F S1000000x4 .f32) : FVec F S1000000x4 .f32 :=
  Host.divf (expo y) (broadcastInDim S1000000x4 ![0, 1] bcast_S1000000x1_S1000000x4_0_1
    (broadcastInDim S1000000x1 ![0] bcast_S1000000_S1000000x1_0
      (Host.reduceAdd (expo y) (constant S_ .f32 0x00000000#32) reducesTo_S1000000x4_S1000000_d1 h_S_)))

/-- The entry numbers, row by row. -/
def counter : IVec S1000000x4 64 :=
  addi (muli (broadcastInDim S1000000x4 ![] bcast_S_S1000000x4 (constantI S_ 64 4#64)) (iotaInDim S1000000x4 64 0))
    (muli (broadcastInDim S1000000x4 ![] bcast_S_S1000000x4 (constantI S_ 64 1#64)) (iotaInDim S1000000x4 64 1))

/-- The upper words of the entry numbers. -/
def upper : IVec S1000000x4 32 :=
  trunci 32 (Host.shrui counter (broadcastInDim S1000000x4 ![] bcast_S_S1000000x4 (constantI S_ 64 32#64))) natLt_32_64

/-- The lower words of the entry numbers. -/
def lower : IVec S1000000x4 32 := trunci 32 counter natLt_32_64

/-- The two random words of every entry. -/
def words : IVec S1000000x4 32 × IVec S1000000x4 32 :=
  mix (addi upper (broadcastInDim S1000000x4 ![] bcast_S_S1000000x4 (constantI S_ 32 0#32)),
    addi lower (broadcastInDim S1000000x4 ![] bcast_S_S1000000x4 (constantI S_ 32 42#32)))

/-- The Gumbel draws made of two random words. -/
def draw (p : IVec S1000000x4 32 × IVec S1000000x4 32) : FVec F S1000000x4 .f32 :=
  Host.negf (Host.log (Host.negf (Host.log (maximumf
    (broadcastInDim S1000000x4 ![] bcast_S_S1000000x4 (constant S_ .f32 0x00800000#32))
    (addf (mulf (subf (bitcastToFloat .f32 (ori
          (Host.shrui (xori p.1 p.2) (broadcastInDim S1000000x4 ![] bcast_S_S1000000x4 (constantI S_ 32 9#32)))
          (broadcastInDim S1000000x4 ![] bcast_S_S1000000x4 (constantI S_ 32 1065353216#32))))
        (broadcastInDim S1000000x4 ![] bcast_S_S1000000x4 (constant S_ .f32 0x3F800000#32)))
      (broadcastInDim S1000000x4 ![] bcast_S_S1000000x4 (constant S_ .f32 0x3F800000#32)))
    (broadcastInDim S1000000x4 ![] bcast_S_S1000000x4 (constant S_ .f32 0x00800000#32)))))))

/-- The class picked in every row. -/
def pick (z : FVec F S1000000x4 .f32) : IVec S1000000 32 := fun j =>
  (Host.argReduce reducer_argmax_f32_i32 z (iotaInDim S1000000x4 32 1) (constant S_ .f32 0xFF800000#32) (constantI S_ 32 0#32)
    reducesTo_S1000000x4_S1000000_d1 h_S_ j).2

/-- The first result, from the normalized rows, their softmax and the draws. -/
def hot (y p g : FVec F S1000000x4 .f32) : FVec F S1000000x4 .f32 :=
  addf (subf (uitofp .f32 (cmpi .eq
      (broadcastInDim S1000000x4 ![0, 1] bcast_S1000000x1_S1000000x4_0_1
        (broadcastInDim S1000000x1 ![0] bcast_S1000000_S1000000x1_0 (pick (addf g y))))
      (broadcastInDim S1000000x4 ![0, 1] bcast_S1x4_S1000000x4_0_1 (iotaInDim S1x4 32 1)))) p) p

/-- The operations before the random words. -/
def headOps : List (HloOp τ sig (Elt F)) := meanOps ++ (varOps ++ (normOps ++ (softOps ++ (keyOps ++ countOps))))

/-- All operations, cut at the random words. -/
theorem ops_cut : (ops : List (HloOp τ sig (Elt F))) = headOps ++ (mixOps ++ (drawOps ++ pickOps)) := by
  simp only [ops, headOps, List.append_assoc]

section
variable (V : Valuation τ sig (Elt F))

/-- The second result, before the random words. -/
theorem head_norm : after headOps V (Proc.devRef .tc main_v17)
    = norm (V (Proc.devRef .tc main_arg0)) (V (Proc.devRef .tc main_arg1)) (V (Proc.devRef .tc main_arg2)) := by
  after_reads_simp; rfl

/-- The softmax, over the normalized rows. -/
theorem head_soft : after headOps V (Proc.devRef .tc main_v28)
    = soft (norm (V (Proc.devRef .tc main_arg0)) (V (Proc.devRef .tc main_arg1)) (V (Proc.devRef .tc main_arg2))) := by
  after_reads_simp; rfl

/-- The first key word. -/
theorem head_key0 : after headOps V (Proc.devRef .tc main_v37) = (constantI S_ 32 0#32 : IVec S_ 32) := by
  have a : upto headOps V 67 (Proc.devRef .tc main_v31) = (constantI S1 32 0#32 : IVec S1 32) := by
    after_reads_simp; funext j; rfl
  have b : upto headOps V 67 (Proc.devRef .tc main_v34) = (constantI S1 32 42#32 : IVec S1 32) := by
    after_reads_simp; funext j
    exact (by decide : 42#32 &&& 4294967295#32 = 42#32)
  after_reads_simp
  rw [a, b]
  funext j; pointwise [constantI]

/-- The second key word. -/
theorem head_key1 : after headOps V (Proc.devRef .tc main_v39) = (constantI S_ 32 42#32 : IVec S_ 32) := by
  have a : upto headOps V 67 (Proc.devRef .tc main_v31) = (constantI S1 32 0#32 : IVec S1 32) := by
    after_reads_simp; funext j; rfl
  have b : upto headOps V 67 (Proc.devRef .tc main_v34) = (constantI S1 32 42#32 : IVec S1 32) := by
    after_reads_simp; funext j
    exact (by decide : 42#32 &&& 4294967295#32 = 42#32)
  after_reads_simp
  rw [a, b]
  funext j; pointwise [constantI]

/-- The upper words. -/
theorem head_upper : after headOps V (Proc.devRef .tc main_v50) = (upper : IVec S1000000x4 32) := by
  after_reads_simp; rfl

/-- The lower words. -/
theorem head_lower : after headOps V (Proc.devRef .tc main_v49) = (lower : IVec S1000000x4 32) := by
  after_reads_simp; rfl

/-- The random words leave the normalized rows. -/
theorem mix_norm : after mixOps V (Proc.devRef .tc main_v17) = V (Proc.devRef .tc main_v17) := by after_reads_simp

/-- The random words leave the softmax. -/
theorem mix_soft : after mixOps V (Proc.devRef .tc main_v28) = V (Proc.devRef .tc main_v28) := by after_reads_simp

/-- The draws. -/
theorem tail_draw : after drawOps V (Proc.devRef .tc main_v69)
    = draw (V (Proc.devRef .tc main_v51_0), V (Proc.devRef .tc main_v51_1)) := by
  after_reads_simp; rfl

/-- The draws leave the normalized rows. -/
theorem tail_norm : after drawOps V (Proc.devRef .tc main_v17) = V (Proc.devRef .tc main_v17) := by after_reads_simp

/-- The draws leave the softmax. -/
theorem tail_soft : after drawOps V (Proc.devRef .tc main_v28) = V (Proc.devRef .tc main_v28) := by after_reads_simp

/-- The first result. -/
theorem last_hot : after pickOps V (Proc.devRef .tc main_v74)
    = hot (V (Proc.devRef .tc main_v17)) (V (Proc.devRef .tc main_v28)) (V (Proc.devRef .tc main_v69)) := by
  after_reads_simp
  simp only [TRef.ofBuf_toBuf]
  have e : ∀ h₁ h₂ h₃, (TRef.of main_v70 h₁ h₂ h₃ : TRef sig ⟨S1000000x4, .f32⟩).ofBuf (Val := Elt F)
      (addf (V (Proc.devRef .tc main_v69)) (V (Proc.devRef .tc main_v17)) : FVec F S1000000x4 .f32)
      = (addf (V (Proc.devRef .tc main_v69)) (V (Proc.devRef .tc main_v17)) : FVec F S1000000x4 .f32) := fun _ _ _ => rfl
  rw [e]
  change _ = hot (V (Proc.devRef .tc main_v17) : FVec F S1000000x4 .f32) (V (Proc.devRef .tc main_v28)) (V (Proc.devRef .tc main_v69))
  unfold hot pick
  rfl

/-- The pick leaves the normalized rows. -/
theorem last_norm : after pickOps V (Proc.devRef .tc main_v17) = V (Proc.devRef .tc main_v17) := by after_reads_simp

/-- All operations: the second result. -/
theorem ops_norm : after ops V (Proc.devRef .tc main_v17)
    = norm (V (Proc.devRef .tc main_arg0)) (V (Proc.devRef .tc main_arg1)) (V (Proc.devRef .tc main_arg2)) := by
  rw [ops_cut, StableHlo.after_append, StableHlo.after_append, StableHlo.after_append, last_norm, tail_norm, mix_norm, head_norm]

/-- All operations: the first result. -/
theorem ops_hot : after ops V (Proc.devRef .tc main_v74)
    = hot (norm (V (Proc.devRef .tc main_arg0)) (V (Proc.devRef .tc main_arg1)) (V (Proc.devRef .tc main_arg2)))
      (soft (norm (V (Proc.devRef .tc main_arg0)) (V (Proc.devRef .tc main_arg1)) (V (Proc.devRef .tc main_arg2))))
      (draw words) := by
  have hm := mix_at (V := after headOps V) (head_key0 V) (head_key1 V) (head_upper V) (head_lower V)
  rw [ops_cut, StableHlo.after_append, StableHlo.after_append, StableHlo.after_append, last_hot, tail_norm, mix_norm, head_norm,
    tail_soft, mix_soft, head_soft, tail_draw, hm.1, hm.2]
  rfl

/-- All operations leave the first argument. -/
theorem ops_arg0 : after ops V (Proc.devRef .tc main_arg0) = V (Proc.devRef .tc main_arg0) := by after_reads_simp

/-- All operations leave the second argument. -/
theorem ops_arg1 : after ops V (Proc.devRef .tc main_arg1) = V (Proc.devRef .tc main_arg1) := by after_reads_simp

/-- All operations leave the third argument. -/
theorem ops_arg2 : after ops V (Proc.devRef .tc main_arg2) = V (Proc.devRef .tc main_arg2) := by after_reads_simp

end

/-- The run of the reference: the arguments as launched, the two results, and every semaphore at zero. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v74)
        = hot (norm (m ((c.tc : Thread nD τ).loc main_arg0)) (m ((c.tc : Thread nD τ).loc main_arg1)) (m ((c.tc : Thread nD τ).loc main_arg2)))
          (soft (norm (m ((c.tc : Thread nD τ).loc main_arg0)) (m ((c.tc : Thread nD τ).loc main_arg1)) (m ((c.tc : Thread nD τ).loc main_arg2))))
          (draw words)
      ∧ r.2.mem ((c.tc : Thread nD τ).loc main_v17)
        = norm (m ((c.tc : Thread nD τ).loc main_arg0)) (m ((c.tc : Thread nD τ).loc main_arg1)) (m ((c.tc : Thread nD τ).loc main_arg2)))
      ∧ r.2.sem = fun _ => 0) := by
  refine θ_run_mono (run_seq (by decide) (by decide) _ _ (fun _ => ops) main_eq ?_ m ρ ?_) fun r h => ?_
  · intro d
    simp only [ops, meanOps, varOps, normOps, softOps, keyOps, countOps, mixOps, startOps, round1, round2, round3, round4,
      round5, round6, round7, round8, round9, round10, round11, round12, round13, round14, round15, round16, round17, round18,
      round19, round20, inject1, inject2, inject3, inject4, inject5, drawOps, pickOps, List.cons_append, List.nil_append,
      List.forall_cons, List.Forall, nullary_bufs_sub, unary_bufs_sub, binary_bufs_sub, ternary_bufs_sub, quaternary_bufs_sub,
      reshape_bufs_sub, TRef.nullary, TRef.unary, TRef.binary, TRef.ternary, TRef.quaternary, and_self]
  · intro d
    exact List.forall_iff_forall_mem.mp (forall_fresh_of_map rfl)
  · refine ⟨fun c => ⟨?_, ?_, ?_, ?_, ?_⟩, sem_eq_zero_of_no_sems rfl _⟩
    · rw [h c]; exact ops_arg0 _
    · rw [h c]; exact ops_arg1 _
    · rw [h c]; exact ops_arg2 _
    · rw [h c]; exact ops_hot _
    · rw [h c]; exact ops_norm _

end Cert.ReferenceIdeal.Ops

end
-- ==== Proof.Pick.lean ====
/-
  The class picked in a row: the first of the four whose value is the greatest. The reference folds the four pairs of value
  and class with a reducer; the kernel takes the least class among those that attain the maximum.
-/
module

public import proofs.«01_k».proof.Proof.ReferenceRun

@[expose] public section

set_option maxHeartbeats 400000
set_option maxRecDepth 20000

noncomputable section

namespace Cert.Pick

open Idealize.ShloMosaic Cert.ReferenceIdeal

section
variable {α κ : Type} [LinearOrder κ] (f : α → α → α) (k : α → κ)

/-- An operation that keeps the argument of the greater key. -/
structure Keeps : Prop where
  /-- The key tells the arguments apart. -/
  inj : ∀ a b, k a = k b → a = b
  /-- The argument kept. -/
  eq : ∀ a b, f a b = if k b < k a then a else b

variable {f k}

/-- The argument of the greater key is kept, whichever it is. -/
theorem Keeps.of_le (H : Keeps f k) {a b p : α} (h : a = p ∨ b = p) (ha : k a ≤ k p) (hb : k b ≤ k p) : f a b = p := by
  rw [H.eq]
  split
  · next h1 =>
    rcases h with h | h
    · exact h
    · subst h; exact absurd ha (not_le_of_gt h1)
  · next h1 =>
    rcases h with h | h
    · subst h; exact H.inj _ _ (le_antisymm hb (not_lt.mp h1))
    · exact h

/-- The key of what is kept is the greater of the two. -/
theorem Keeps.key (H : Keeps f k) (a b : α) : k (f a b) = max (k a) (k b) := by
  rw [H.eq]
  split
  · next h => rw [max_eq_left h.le]
  · next h => rw [max_eq_right (not_lt.mp h)]

/-- The order of the arguments does not matter. -/
theorem Keeps.comm (H : Keeps f k) : Std.Commutative f :=
  ⟨fun a b => H.inj _ _ (by rw [H.key, H.key, max_comm])⟩

/-- The grouping does not matter. -/
theorem Keeps.assoc (H : Keeps f k) : Std.Associative f :=
  ⟨fun a b c => H.inj _ _ (by simp only [H.key, max_assoc])⟩

/-- One of four arguments that has the greatest key is kept by the fold of them all. -/
theorem Keeps.four (H : Keeps f k) {a b c d e p : α} (h : a = p ∨ b = p ∨ c = p ∨ d = p)
    (ha : k a ≤ k p) (hb : k b ≤ k p) (hc : k c ≤ k p) (hd : k d ≤ k p) (he : k e ≤ k p) :
    f a (f b (f c (f d e))) = p := by
  apply H.inj
  simp only [H.key]
  refine le_antisymm ?_ ?_
  · simp only [max_le_iff]; exact ⟨ha, hb, hc, hd, he⟩
  · rcases h with h | h | h | h <;> subst h <;> simp
end

/-- The key of a pair of value and class: the value first, then the smaller class. -/
def key (p : EReal × BitVec 32) : EReal ×ₗ ℤᵒᵈ := toLex (p.1, OrderDual.toDual p.2.toInt)

/-- A truth value as a bit. -/
theorem bit_eq (p : Prop) [Decidable p] : BitVec.ofBool (decide p) = if p then 1#1 else 0#1 := by
  by_cases h : p
  · rw [if_pos h, decide_eq_true h]; rfl
  · rw [if_neg h, decide_eq_false h]; rfl

/-- The reference's reducer on extended reals. -/
theorem red_eq (a b : EReal × BitVec 32) : reducer_argmax_f32_i32 (F := Ideal) a b
    = (if b.1 < a.1 then a.1 else b.1, if b.1 < a.1 ∨ a.1 = b.1 ∧ a.2.toInt < b.2.toInt then a.2 else b.2) := by
  have e1 : FloatOps.cmpf (F := Ideal) (φ := .f32) .ogt a.1 b.1 = if b.1 < a.1 then 1#1 else 0#1 := by
    simp only [Ideal.cmpf_def, Ideal.cmp]
    exact bit_eq _
  have e2 : FloatOps.cmpf (F := Ideal) (φ := .f32) .une a.1 a.1 = 0#1 := by
    simp [Ideal.cmpf_def, Ideal.cmp]
  have e3 : FloatOps.cmpf (F := Ideal) (φ := .f32) .oeq a.1 b.1 = if a.1 = b.1 then 1#1 else 0#1 := by
    simp only [Ideal.cmpf_def, Ideal.cmp]
    exact bit_eq _
  have e4 : IntOp.cmpi .slt a.2 b.2 = if a.2.toInt < b.2.toInt then 1#1 else 0#1 := by
    simp only [IntOp.cmpi, BitVec.slt]
    exact bit_eq _
  unfold reducer_argmax_f32_i32
  rw [e1, e2, e3, e4]
  split_ifs <;> first | rfl | (exfalso; tauto)

/-- The reference's reducer keeps the pair of the greater key. -/
theorem reducer_keeps : Keeps (reducer_argmax_f32_i32 (F := Ideal)) key where
  inj a b h := by
    have h' : (a.1, OrderDual.toDual a.2.toInt) = (b.1, OrderDual.toDual b.2.toInt) := toLex_inj.mp h
    have h1 : a.1 = b.1 := congrArg (fun x : EReal × ℤᵒᵈ => x.1) h'
    have h2 : a.2.toInt = b.2.toInt := congrArg (fun x : EReal × ℤᵒᵈ => OrderDual.ofDual x.2) h'
    exact Prod.ext h1 (BitVec.eq_of_toInt_eq h2)
  eq a b := by
    have hk : key b < key a ↔ (b.1 < a.1 ∨ b.1 = a.1 ∧ a.2.toInt < b.2.toInt) := by
      unfold key
      rw [Prod.Lex.toLex_lt_toLex]
      rfl
    by_cases h : key b < key a
    · rw [if_pos h]
      rcases hk.mp h with h1 | ⟨h1, h2⟩
      · rw [red_eq, if_pos h1, if_pos (Or.inl h1)]
      · rw [red_eq, if_pos (Or.inr ⟨h1.symm, h2⟩), if_neg h1.not_lt, h1]
    · rw [if_neg h, red_eq, if_neg fun h1 => h (hk.mpr (Or.inl h1)), if_neg fun h1 => h (hk.mpr (h1.imp id fun h2 => ⟨h2.1.symm, h2.2⟩))]

/-- The class the kernel picks of four values. -/
def first (z : Fin 4 → EReal) : BitVec 32 :=
  IntOp.minsi (IntOp.minsi (if z 0 = max (max (z 0) (z 1)) (max (z 2) (z 3)) then 0#32 else 8#32)
      (if z 1 = max (max (z 0) (z 1)) (max (z 2) (z 3)) then 1#32 else 8#32))
    (IntOp.minsi (if z 2 = max (max (z 0) (z 1)) (max (z 2) (z 3)) then 2#32 else 8#32)
      (if z 3 = max (max (z 0) (z 1)) (max (z 2) (z 3)) then 3#32 else 8#32))

/-- The greatest key among the pairs. -/
theorem key_le {v w : EReal} {i j : BitVec 32} (h : v < w ∨ v = w ∧ j.toInt ≤ i.toInt) : key (v, i) ≤ key (w, j) := by
  unfold key
  rw [Prod.Lex.toLex_le_toLex]
  exact h

/-- The fold of four pairs picks the class the kernel picks. -/
theorem fold_eq (z : Fin 4 → EReal) :
    (reducer_argmax_f32_i32 (F := Ideal) (z 0, 0#32) (reducer_argmax_f32_i32 (F := Ideal) (z 1, 1#32)
      (reducer_argmax_f32_i32 (F := Ideal) (z 2, 2#32) (reducer_argmax_f32_i32 (F := Ideal) (z 3, 3#32) (⊥, 0#32))))).2 = first z := by
  unfold first
  generalize hM : max (max (z 0) (z 1)) (max (z 2) (z 3)) = M
  have l0 : z 0 ≤ M := by rw [← hM]; simp
  have l1 : z 1 ≤ M := by rw [← hM]; simp
  have l2 : z 2 ≤ M := by rw [← hM]; simp
  have l3 : z 3 ≤ M := by rw [← hM]; simp
  have hex : z 0 = M ∨ z 1 = M ∨ z 2 = M ∨ z 3 = M := by
    rw [← hM]
    rcases max_choice (max (z 0) (z 1)) (max (z 2) (z 3)) with h | h <;> rw [h]
    · rcases max_choice (z 0) (z 1) with h | h <;> rw [h] <;> simp
    · rcases max_choice (z 2) (z 3) with h | h <;> rw [h] <;> simp
  have hb' : (⊥ : EReal) ≤ M := bot_le
  have go : ∀ {v w : EReal} {i j : BitVec 32}, v ≤ w → (v = w → j.toInt ≤ i.toInt) → key (v, i) ≤ key (w, j) := fun h1 h2 =>
    key_le ((lt_or_eq_of_le h1).imp id fun h => ⟨h, h2 h⟩)
  by_cases h0 : z 0 = M
  · rw [reducer_keeps.four (p := (M, 0#32)) (Or.inl (by rw [h0])) (go l0 fun _ => by decide) (go l1 fun _ => by decide)
      (go l2 fun _ => by decide) (go l3 fun _ => by decide) (go hb' fun _ => by decide)]
    rw [if_pos h0]
    show 0#32 = _
    split_ifs <;> decide
  by_cases h1 : z 1 = M
  · rw [reducer_keeps.four (p := (M, 1#32)) (Or.inr (Or.inl (by rw [h1]))) (go l0 fun h => absurd h h0) (go l1 fun _ => by decide)
      (go l2 fun _ => by decide) (go l3 fun _ => by decide) (go hb' fun h => absurd h (by rintro rfl; exact h0 (le_bot_iff.mp l0)))]
    rw [if_neg h0, if_pos h1]
    show 1#32 = _
    split_ifs <;> decide
  by_cases h2 : z 2 = M
  · rw [reducer_keeps.four (p := (M, 2#32)) (Or.inr (Or.inr (Or.inl (by rw [h2])))) (go l0 fun h => absurd h h0) (go l1 fun h => absurd h h1)
      (go l2 fun _ => by decide) (go l3 fun _ => by decide) (go hb' fun h => absurd h (by rintro rfl; exact h0 (le_bot_iff.mp l0)))]
    rw [if_neg h0, if_neg h1, if_pos h2]
    show 2#32 = _
    split_ifs <;> decide
  · have h3 : z 3 = M := by tauto
    rw [reducer_keeps.four (p := (M, 3#32)) (Or.inr (Or.inr (Or.inr (by rw [h3])))) (go l0 fun h => absurd h h0) (go l1 fun h => absurd h h1)
      (go l2 fun h => absurd h h2) (go l3 fun _ => by decide) (go hb' fun h => absurd h (by rintro rfl; exact h0 (le_bot_iff.mp l0)))]
    rw [if_neg h0, if_neg h1, if_neg h2, if_pos h3]
    show 3#32 = _
    decide

/-- An arg-max along the second axis is the fold, in any order, of the row's pairs. -/
theorem argReduce_row {n0 n1 : ℕ} {t u : Shape} (f : EReal × BitVec 32 → EReal × BitVec 32 → EReal × BitVec 32)
    (hc : Std.Commutative f) (ha : Std.Associative f) (x : FVec Ideal ⟨2, ![n0, n1]⟩ .f32) (y : IVec ⟨2, ![n0, n1]⟩ 32)
    (ix : FVec Ideal u .f32) (iy : IVec u 32) (h : (⟨2, ![n0, n1]⟩ : Shape).ReducesTo [1] t) (hu : 0 < u.numel) (j : t.Idx) :
    Host.argReduce (F := Ideal) (φ := .f32) f x y ix iy h hu j
      = Finset.univ.fold f (ix (Shape.Idx.first hu), iy (Shape.Idx.first hu)) fun k : Fin n1 =>
        (x (ix2 ⟨(j ⟨0, h.lt_r2_a1_0⟩).val, Shape.coordLt (j ⟨0, h.lt_r2_a1_0⟩) h.size_r2_a1_0⟩ k),
          y (ix2 ⟨(j ⟨0, h.lt_r2_a1_0⟩).val, Shape.coordLt (j ⟨0, h.lt_r2_a1_0⟩) h.size_r2_a1_0⟩ k)) := by
  rw [Ideal.argReduce_eq_reduce2]
  refine (Shape.foldl_filter_rowMajor_eq_fold h.drop f (ix (Shape.Idx.first hu), iy (Shape.Idx.first hu)) (fun i => (x i, y i)) j).trans ?_
  rw [Shape.ReducesTo.fold_fiber_r2_a1]

/-- A fold over four indices, written out. -/
theorem fold_four {α : Type} (f : α → α → α) (hc : Std.Commutative f) (ha : Std.Associative f) (b : α) (g : Fin 4 → α) :
    Finset.univ.fold f b g = f (g 0) (f (g 1) (f (g 2) (f (g 3) b))) := rfl

/-- The pick of a whole array. -/
theorem pick_eq (z : FVec Ideal S1000000x4 .f32) (P : IVec S1000000 32)
    (h : ∀ j, P j = (Host.argReduce (F := Ideal) reducer_argmax_f32_i32 z (iotaInDim S1000000x4 32 1) (constant S_ .f32 0xFF800000#32) (constantI S_ 32 0#32)
      Facts₀.reducesTo_S1000000x4_S1000000_d1 Facts₀.h_S_ j).2) : Ops.pick z = P := by
  delta Ops.pick
  exact (funext h).symm

/-- The reference's pick in a row. -/
theorem pick_at (z : FVec Ideal S1000000x4 .f32) : Ops.pick z = fun j => first fun c => z (ix2 (j 0) c) := by
  refine pick_eq z _ fun j => ?_
  have h := congrArg Prod.snd (argReduce_row (n0 := 1000000) (n1 := 4) (t := S1000000) (u := S_) (reducer_argmax_f32_i32 (F := Ideal)) reducer_keeps.comm reducer_keeps.assoc z
    (iotaInDim S1000000x4 32 1) (constant S_ .f32 0xFF800000#32) (constantI S_ 32 0#32) Facts₀.reducesTo_S1000000x4_S1000000_d1 Facts₀.h_S_ j)
  rw [← fold_eq]
  refine Eq.trans ?_ h.symm
  refine congrArg Prod.snd ?_
  refine Eq.trans ?_ (fold_four _ reducer_keeps.comm reducer_keeps.assoc _ _).symm
  have hb : (constant S_ .f32 0xFF800000#32 (Shape.Idx.first Facts₀.h_S_) : Ideal .f32) = (⊥ : EReal) := by
    show Ideal.ofBits .f32 0xFF800000#32 = ⊥
    simp [Ideal.ofBits, Ideal.ieee]
  rw [hb]
  rfl

end Cert.Pick
end
-- ==== Proof.Words.lean ====
/-
  The random words of an entry, as a function of the entry's number: twenty rounds and five steps of the key schedule on a
  pair of words. The reference's words read so at every entry.
-/
module

public import proofs.«01_k».proof.Proof.ReferenceRun

@[expose] public section

set_option maxHeartbeats 4000000
set_option maxRecDepth 20000

noncomputable section

namespace Cert.Words

open Idealize.ShloMosaic Cert.ReferenceIdeal

/-- One round on a pair of words. -/
def srnd (r s : BitVec 32) (p : BitVec 32 × BitVec 32) : BitVec 32 × BitVec 32 :=
  (p.1 + p.2, (p.1 + p.2) ^^^ ((p.2 <<< r) ||| (p.2 >>> s)))

/-- One step of the key schedule on a pair of words. -/
def sinj (a b n : BitVec 32) (p : BitVec 32 × BitVec 32) : BitVec 32 × BitVec 32 := (p.1 + a, (p.2 + b) + n)

/-- All rounds on a pair of words. -/
def smix (p : BitVec 32 × BitVec 32) : BitVec 32 × BitVec 32 :=
  sinj 466689008#32 0#32 5#32 (srnd 6#32 26#32 (srnd 26#32 6#32 (srnd 15#32 17#32 (srnd 13#32 19#32 (sinj 42#32 466689008#32 4#32 (srnd 24#32 8#32 (srnd 16#32 16#32 (srnd 29#32 3#32 (srnd 17#32 15#32 (sinj 0#32 42#32 3#32 (srnd 6#32 26#32 (srnd 26#32 6#32 (srnd 15#32 17#32 (srnd 13#32 19#32 (sinj 466689008#32 0#32 2#32 (srnd 24#32 8#32 (srnd 16#32 16#32 (srnd 29#32 3#32 (srnd 17#32 15#32 (sinj 42#32 466689008#32 1#32 (srnd 6#32 26#32 (srnd 26#32 6#32 (srnd 15#32 17#32 (srnd 13#32 19#32 p))))))))))))))))))))))))

/-- The random word of the entry of number `n`. -/
def word (n : ℕ) : BitVec 32 :=
  (smix (0#32 + 0#32, BitVec.ofNat 32 n + 42#32)).1 ^^^ (smix (0#32 + 0#32, BitVec.ofNat 32 n + 42#32)).2

/-- A left shift by less than the width is the same on every unit. -/
theorem shli_lt (u : ArithUnit) (x r : BitVec 32) (h : r.toNat < 32) : IntOp.shli u x r = x <<< r := if_pos h

/-- A right shift by less than the width is the same on every unit. -/
theorem shrui_lt (u : ArithUnit) (x r : BitVec 32) (h : r.toNat < 32) : IntOp.shrui u x r = x >>> r := if_pos h

/-- The words at an entry. -/
def pt (p : IVec S1000000x4 32 × IVec S1000000x4 32) (j : S1000000x4.Idx) : BitVec 32 × BitVec 32 := (p.1 j, p.2 j)

/-- A round at an entry. -/
theorem pt_rnd (r s : BitVec 32) (hr : r.toNat < 32) (hs : s.toNat < 32) (p : IVec S1000000x4 32 × IVec S1000000x4 32)
    (a : Fin 1000000) (b : Fin 4) : pt (Ops.rnd r s p) (ix2 a b) = srnd r s (pt p (ix2 a b)) := by
  refine Prod.ext ?_ ?_
  · pointwise [pt, Ops.rnd, srnd]; rfl
  · pointwise [pt, Ops.rnd, srnd]
    rw [shli_lt _ _ _ hr, shrui_lt _ _ _ hs]; rfl

/-- A step of the key schedule at an entry. -/
theorem pt_inj (r s n : BitVec 32) (p : IVec S1000000x4 32 × IVec S1000000x4 32) (a : Fin 1000000) (b : Fin 4) :
    pt (Ops.inj r s n p) (ix2 a b) = sinj r s n (pt p (ix2 a b)) := by
  refine Prod.ext ?_ ?_
  · pointwise [pt, Ops.inj, sinj]; rfl
  · pointwise [pt, Ops.inj, sinj]; rfl

/-- All rounds at an entry. -/
theorem pt_mix (p : IVec S1000000x4 32 × IVec S1000000x4 32) (a : Fin 1000000) (b : Fin 4) :
    pt (Ops.mix p) (ix2 a b) = smix (pt p (ix2 a b)) := by
  unfold Ops.mix smix
  simp only [pt_inj]
  repeat' first | rw [pt_rnd _ _ (by decide) (by decide)] | rw [pt_inj]

/-- The lower word of an entry's number. -/
theorem lower_at (a : Fin 1000000) (b : Fin 4) : Ops.lower (ix2 a b) = BitVec.ofNat 32 (4 * a.val + b.val) := by
  pointwise [Ops.lower, Ops.counter]
  apply BitVec.eq_of_toNat_eq
  have h1 := a.isLt
  have h2 := b.isLt
  simp [IntOp.addi, IntOp.muli]

/-- The upper word of an entry's number is zero. -/
theorem upper_at (a : Fin 1000000) (b : Fin 4) : Ops.upper (ix2 a b) = 0#32 := by
  pointwise [Ops.upper, Ops.counter]
  apply BitVec.eq_of_toNat_eq
  have h1 := a.isLt
  have h2 := b.isLt
  have e : IntOp.shrui ArithUnit.host (IntOp.addi (IntOp.muli (4#64) (BitVec.ofNat 64 ↑a)) (IntOp.muli (1#64) (BitVec.ofNat 64 ↑b))) 32#64
      = (IntOp.addi (IntOp.muli (4#64) (BitVec.ofNat 64 ↑a)) (IntOp.muli (1#64) (BitVec.ofNat 64 ↑b))) >>> 32 := rfl
  rw [e]
  simp [IntOp.addi, IntOp.muli, Nat.shiftRight_eq_div_pow]
  omega

/-- The reference's two words, joined, at an entry. -/
theorem words_at (a : Fin 1000000) (b : Fin 4) :
    IntOp.xori (Ops.words.1 (ix2 a b)) (Ops.words.2 (ix2 a b)) = word (4 * a.val + b.val) := by
  have h : pt Ops.words (ix2 a b) = smix (0#32 + 0#32, BitVec.ofNat 32 (4 * a.val + b.val) + 42#32) := by
    unfold Ops.words
    rw [pt_mix]
    congr 1
    refine Prod.ext ?_ ?_
    · pointwise [pt, upper_at]; rfl
    · pointwise [pt, lower_at]; rfl
  have e := congrArg (fun p : BitVec 32 × BitVec 32 => p.1 ^^^ p.2) h
  exact e

end Cert.Words
end
-- ==== Proof.Arith.lean ====
/-
  The arithmetic the two programs differ by, over the real numbers: the variance as the mean square less the squared mean,
  the normalization as a scale and a shift, and the softmax without the maximum taken off.
-/
module

public import proofs.«01_k».proof.Proof.Words

@[expose] public section

set_option maxHeartbeats 400000

noncomputable section

namespace Cert.Arith

open Idealize.ShloMosaic

/-- The number of rows. -/
theorem rows_word : Ideal.ofBits .f32 1232348160#32 = ((1000000 : ℝ) : EReal) := by
  simp [Ideal.ofBits, Ideal.ieee, -EReal.coe_mul]; norm_num

/-- The number added to the variance is positive. -/
theorem eps_word : ∃ e : ℝ, 0 < e ∧ Ideal.ofBits .f32 925353388#32 = (e : EReal) := by
  refine ⟨10995116 * (2 ^ 40)⁻¹, by positivity, ?_⟩
  simp [Ideal.ofBits, Ideal.ieee, -EReal.coe_mul]

/-- The word of minus infinity. -/
theorem bot_word : Ideal.ofBits .f32 4286578688#32 = (⊥ : EReal) := by simp [Ideal.ofBits, Ideal.ieee]

/-- A sum of real numbers. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of real numbers. -/
theorem div_real (x y : ℝ) (h : y ≠ 0) : Ideal.div (x : EReal) (y : EReal) = ((x / y : ℝ) : EReal) := by
  rw [Ideal.div_coe h, ← EReal.coe_mul]; congr 1; ring

/-- The mean of squared deviations is the mean square less the squared mean. -/
theorem var_real {ι : Type} [Fintype ι] (X : ι → ℝ) (n : ℝ) (hn : n ≠ 0) (hc : (Fintype.card ι : ℝ) = n) :
    (∑ r, (X r - (∑ r, X r) / n) * (X r - (∑ r, X r) / n)) / n
      = (∑ r, X r * X r) / n - (∑ r, X r) / n * ((∑ r, X r) / n) := by
  set s := ∑ r, X r with hs
  have : ∑ r, (X r - s / n) * (X r - s / n) = (∑ r, X r * X r) - 2 * (s / n) * s + n * ((s / n) * (s / n)) := by
    have e : ∀ r, (X r - s / n) * (X r - s / n) = X r * X r - 2 * (s / n) * X r + (s / n) * (s / n) := fun r => by ring
    simp only [e, Finset.sum_add_distrib, Finset.sum_sub_distrib, ← Finset.mul_sum, Finset.sum_const, nsmul_eq_mul, Finset.card_univ, hc]
    rw [← hs]; ring
  rw [this]; field_simp; ring

/-- The column mean. -/
def kmean (s : EReal) : EReal := Ideal.div s (Ideal.ofBits .f32 1232348160#32)

/-- The scale: the reciprocal square root of the variance and what is added, times the gain. -/
def kscale (s q g : EReal) : EReal :=
  g * Ideal.rsqrt (Ideal.div q (Ideal.ofBits .f32 1232348160#32) - kmean s * kmean s + Ideal.ofBits .f32 925353388#32)

/-- The shift. -/
def kshift (s q g b : EReal) : EReal := b - kmean s * kscale s q g

/-- The variance as the reference writes it. -/
def rvar {ι : Type} [Fintype ι] (x : ι → EReal) : EReal :=
  Ideal.div (∑ r, (x r - kmean (∑ r, x r)) * (x r - kmean (∑ r, x r))) (Ideal.ofBits .f32 1232348160#32)

/-- The normalized entry as the reference writes it. -/
def rnorm {ι : Type} [Fintype ι] (x : ι → EReal) (g b : EReal) (r : ι) : EReal :=
  Ideal.div (x r - kmean (∑ r, x r)) (Ideal.sqrt (rvar x + Ideal.ofBits .f32 925353388#32)) * g + b

/-- On real numbers the scale and shift are the normalization, and the result is a real number. -/
theorem norm_real {ι : Type} [Fintype ι] (hc : Fintype.card ι = 1000000) (X : ι → ℝ) (g b : ℝ) (r : ι) :
    ∃ y : ℝ, (X r : EReal) * kscale (∑ r, (X r : EReal)) (∑ r, (X r : EReal) * (X r : EReal)) g
        + kshift (∑ r, (X r : EReal)) (∑ r, (X r : EReal) * (X r : EReal)) g b = (y : EReal)
      ∧ rnorm (fun r => (X r : EReal)) g b r = (y : EReal) := by
  obtain ⟨e, he, hw⟩ := eps_word
  have hn : (1000000 : ℝ) ≠ 0 := by norm_num
  have hv := var_real X 1000000 hn (by rw [hc]; norm_num)
  have hs : ∑ r, (X r : EReal) = ((∑ r, X r : ℝ) : EReal) := sum_coe _ _
  have hq : ∑ r, (X r : EReal) * (X r : EReal) = ((∑ r, X r * X r : ℝ) : EReal) := by
    rw [← sum_coe]; exact Finset.sum_congr rfl fun r _ => (EReal.coe_mul _ _).symm
  have hm : kmean (∑ r, (X r : EReal)) = (((∑ r, X r) / 1000000 : ℝ) : EReal) := by
    rw [kmean, hs, rows_word, div_real _ _ hn]
  have hr : rvar (fun r => (X r : EReal)) = (((∑ r, (X r - (∑ r, X r) / 1000000) * (X r - (∑ r, X r) / 1000000)) / 1000000 : ℝ) : EReal) := by
    have hd : ∑ r, ((X r : EReal) - kmean (∑ r, (X r : EReal))) * ((X r : EReal) - kmean (∑ r, (X r : EReal)))
        = ((∑ r, (X r - (∑ r, X r) / 1000000) * (X r - (∑ r, X r) / 1000000) : ℝ) : EReal) := by
      rw [hm, ← sum_coe]
      refine Finset.sum_congr rfl fun r _ => ?_
      rw [← EReal.coe_sub, ← EReal.coe_mul]
    rw [← div_real _ _ hn, ← rows_word, ← hd]; rfl
  set mu := (∑ r, X r) / 1000000 with hmu
  set v := (∑ r, (X r - mu) * (X r - mu)) / 1000000 with hvd
  have v0 : 0 ≤ v := div_nonneg (Finset.sum_nonneg fun r _ => mul_self_nonneg _) (by norm_num)
  have pos : 0 < v + e := by linarith
  have spos : 0 < Real.sqrt (v + e) := Real.sqrt_pos.mpr pos
  have hk : kscale (∑ r, (X r : EReal)) (∑ r, (X r : EReal) * (X r : EReal)) g = ((g * (Real.sqrt (v + e))⁻¹ : ℝ) : EReal) := by
    rw [kscale, hm, hq, rows_word, div_real _ _ hn, hw, ← EReal.coe_mul, ← EReal.coe_sub, ← EReal.coe_add, ← hv,
      Ideal.rsqrt_coe, if_neg (not_lt.mpr pos.le), if_neg pos.ne', ← EReal.coe_mul]
  refine ⟨(X r - mu) / Real.sqrt (v + e) * g + b, ?_, ?_⟩
  · rw [kshift, hk, hm, ← EReal.coe_mul, ← EReal.coe_mul, ← EReal.coe_sub, ← EReal.coe_add]
    congr 1; field_simp; ring
  · rw [rnorm, hm, hr, hw, ← EReal.coe_sub, ← EReal.coe_add, Ideal.sqrt_coe, if_neg (not_lt.mpr pos.le), div_real _ _ spos.ne',
      ← EReal.coe_mul, ← EReal.coe_add]

/-- The exponentials' share as the kernel writes it. -/
def ksoft (y : Fin 4 → EReal) (c : Fin 4) : EReal :=
  Ideal.div (Ideal.exp (y c)) (Ideal.exp (y 0) + Ideal.exp (y 1) + (Ideal.exp (y 2) + Ideal.exp (y 3)))

/-- The greatest entry of a row as the reference writes it. -/
def rmax (y : Fin 4 → EReal) : EReal :=
  max (Ideal.ofBits .f32 4286578688#32) (Finset.fold max (Ideal.ofBits .f32 4286578688#32) y Finset.univ)

/-- The softmax as the reference writes it. -/
def rsoft (y : Fin 4 → EReal) (c : Fin 4) : EReal :=
  Ideal.div (Ideal.exp (y c - rmax y)) (∑ k, Ideal.exp (y k - rmax y))

/-- The greatest entry of a row of real numbers is a real number. -/
theorem rmax_real (y : Fin 4 → ℝ) : ∃ m : ℝ, rmax (fun c => (y c : EReal)) = (m : EReal) := by
  refine ⟨max (y 0) (max (y 1) (max (y 2) (y 3))), ?_⟩
  rw [rmax, bot_word, max_eq_right bot_le]
  show max (y 0 : EReal) (max (y 1 : EReal) (max (y 2 : EReal) (max (y 3 : EReal) ⊥))) = _
  rw [max_eq_left bot_le]
  simp only [EReal.coe_strictMono.monotone.map_max]

/-- On real numbers the maximum may be left on. -/
theorem soft_real (y : Fin 4 → ℝ) (c : Fin 4) : ksoft (fun c => (y c : EReal)) c = rsoft (fun c => (y c : EReal)) c := by
  obtain ⟨m, hm⟩ := rmax_real y
  rw [ksoft, rsoft, hm]
  simp only [Ideal.exp_coe, ← EReal.coe_sub, sum_coe, ← EReal.coe_add, Fin.sum_univ_four]
  have p : ∀ c, 0 < Real.exp (y c) := fun c => Real.exp_pos _
  have q : 0 < Real.exp m := Real.exp_pos _
  have p0 := p 0
  have p1 := p 1
  have p2 := p 2
  have p3 := p 3
  rw [div_real _ _ (by positivity), div_real _ _ (by positivity)]
  congr 1
  simp only [Real.exp_sub]
  field_simp
  try ring

end Cert.Arith
end
-- ==== Proof.MainBodyKernelIdeal.lean ====
/-
  The body of the second pallas_call, as a statement about memory: it reads the staged input block and the staged
  scale/shift block and overwrites the two output blocks whole.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.WritesUnit
public import Idealize.ShloMosaic.Lib.Pointwise
public import Idealize.ShloMosaic.Lib.Tactic

@[expose] public section

set_option maxRecDepth 16384

noncomputable section

namespace Cert.KernelIdeal.MainBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The uniform draws of a block, as the body computes them from the grid point alone. -/
def draws (i : grid1.Coords) : FVec F S4x1024x128 .f32 :=
  let a := k1_pay5 i
  let b := k1_pay18 a k1_pay6 k1_pay7
  let c := k1_pay19 a k1_pay6 k1_pay7
  let d := k1_pay20 a k1_pay6 k1_pay7
  let e := k1_pay31 b c d 3#32
  let f := k1_pay32 b c d 3#32
  let g := k1_pay41 e f 6#32
  let h := k1_pay42 e f 6#32
  k1_pay44 (F := F) g h k1_pay43

/-- What the body leaves in the one-hot block. -/
def hotBlk (i : grid1.Coords) (X : Vec F S4x131072 .f32) (A : Vec F S8x128 .f32) : Vec F S4x131072 .f32 :=
  k1_pay1 (k1_pay2 X A) (k1_pay4 X A) (iota .tc S4x1024x128 32 [0] iota_S4x1024x128_d0_w32) (draws (F := F) i)

/-- What the body leaves in the scaled block. -/
def scaledBlk (X : Vec F S4x131072 .f32) (A : Vec F S8x128 .f32) : Vec F S4x131072 .f32 := k1_pay3 X A

/-- A load of a whole buffer reads what the buffer reads. -/
theorem readAt_whole {s : Shape} {sp : Space} {e : EltTy} (v : View sig .tc sp s e) (f : v.ty.Contents (Elt F))
    {off : Fin s.rank → Nat} (h0 : off = fun _ => 0) (h : ∀ a, off a + s.size a ≤ s.size a) :
    v.readAt (Elt F) (Rect.unit (s := s) off s.size h).toLoadRect f = v.read (Elt F) f :=
  View.ld_unit_zero h0 h (v.read (Elt F) f)

/-- A store of a whole buffer leaves its payload, whatever was there. -/
theorem read_write_whole {s : Shape} {sp : Space} {e : EltTy} (v : View sig .tc sp s e) (f : v.ty.Contents (Elt F))
    {off : Fin s.rank → Nat} (h0 : off = fun _ => 0) (h : ∀ a, off a + s.size a ≤ s.size a) (w : s.Idx → Elt F e) :
    v.read (Elt F) (v.writes (Elt F) f [⟨Rect.unit (s := s) off s.size h, w⟩]) = w := by
  funext y
  exact View.read_writes_cons_unit_of_mem v f h w [] y y h0 fun a => (Nat.zero_add _).symm

/-- The body on whole buffers: the two inputs are read and kept, the two outputs are overwritten. -/
theorem sound_main (c : Dev nD) (E : Set ℕ) (i : grid1.Coords)
    (a1 : Memref sig .tc .vmem S4x131072 .f32) (h1 : a1.IsWhole) (a2 : Memref sig .tc .vmem S8x128 .f32) (h2 : a2.IsWhole)
    (a3 : Memref sig .tc .vmem S4x131072 .f32) (h3 : a3.IsWhole) (a4 : Memref sig .tc .vmem S4x131072 .f32) (h4 : a4.IsWhole)
    (X1 : S4x131072.Idx → Elt F .f32) (X2 : S8x128.Idx → Elt F .f32) (X3 X4 : S4x131072.Idx → Elt F .f32)
    (K : PUnit → sProp 𝕄) :
    iprop((owns (c : Thread nD τ) a1 fullShare X1 ∗ owns (c : Thread nD τ) a2 fullShare X2
        ∗ owns (c : Thread nD τ) a3 fullShare X3 ∗ owns (c : Thread nD τ) a4 fullShare X4)
        ∗ (iprop(owns (c : Thread nD τ) a1 fullShare X1 ∗ owns (c : Thread nD τ) a2 fullShare X2
            ∗ owns (c : Thread nD τ) a3 fullShare (hotBlk i X1 X2) ∗ owns (c : Thread nD τ) a4 fullShare (scaledBlk X1 X2)) -∗ K ⟨⟩))
      ⊢ wp frame (wpE (defs₀ (F := F)) Variants.none c none) E (cc1__main_kernel i a1 h1 a2 h2 a3 h3 a4 h4) K := by
  have hz : (![0, 0] : Fin 2 → Nat) = fun _ => 0 := funext fun a => by fin_cases a <;> rfl
  simp only [cc1__main_kernel_eq_skeleton]; unfold cc1__main_kernel_skel
  simp only [k1_part1_eq_skeleton, k1_part2_eq_skeleton, k1_part3_eq_skeleton, k1_part4_eq_skeleton, k1_part5_eq_skeleton]
  unfold k1_part1_skel k1_part2_skel k1_part3_skel k1_part4_skel k1_part5_skel owns
  iintro ⟨⟨⟨%f1, %hf1, H1⟩, ⟨%f2, %hf2, H2⟩, ⟨%f3, %hf3, H3⟩, ⟨%f4, %hf4, H4⟩⟩, Hk⟩
  subst hf1 hf2
  sl_exec
  sl_step
  iapply Hk
  rw [readAt_whole a1.view f1 hz, readAt_whole a2.view f2 hz]
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact read_write_whole a3.view f3 hz _ _
  · iexists _; isplitr
    swap; · iexact H4
    ipureintro
    exact read_write_whole a4.view f4 hz _ _

end Cert.KernelIdeal.MainBody

end
-- ==== Proof.WordsKernel.lean ====
/-
  The random words the second kernel makes: at every entry of a block they are the word of the entry's number.
-/
module

public import proofs.«01_k».proof.Proof.Words
public import proofs.«01_k».proof.Proof.MainBodyKernelIdeal

@[expose] public section

set_option maxHeartbeats 200000
set_option maxRecDepth 20000

noncomputable section

namespace Cert.Words

open Idealize.ShloMosaic Cert.KernelIdeal Cert.KernelIdeal.Gen Cert.KernelIdeal.MainBody

/-- One round as the kernel writes it. -/
def krnd (r s : BitVec 32) (p : BitVec 32 × BitVec 32) : BitVec 32 × BitVec 32 :=
  (IntOp.addi p.1 p.2, IntOp.xori (IntOp.ori (IntOp.shli .vector p.2 r) (IntOp.shrui .vector p.2 s)) (IntOp.addi p.1 p.2))

/-- The kernel's round is the round. -/
theorem krnd_eq (r s : BitVec 32) (hr : r.toNat < 32) (hs : s.toNat < 32) (p : BitVec 32 × BitVec 32) : krnd r s p = srnd r s p := by
  unfold krnd srnd
  rw [shli_lt _ _ _ hr, shrui_lt _ _ _ hs]
  exact Prod.ext rfl (BitVec.xor_comm _ _)

section
variable (x y z : IVec S4x1024x128 32) (j : S4x1024x128.Idx)

/-- The first round, from the two halves with the key added. -/
theorem step1 : (k1_pay9 x y z j, k1_pay10 x y z j) = krnd 13#32 19#32 (y j, k1_pay8 x z j) := rfl
/-- The second round. -/
theorem step2 : (k1_pay11 x y z j, k1_pay12 x y z j) = krnd 15#32 17#32 (k1_pay9 x y z j, k1_pay10 x y z j) := rfl
/-- The third round. -/
theorem step3 : (k1_pay13 x y z j, k1_pay14 x y z j) = krnd 26#32 6#32 (k1_pay11 x y z j, k1_pay12 x y z j) := rfl
/-- The fourth round, the first addition of the key and the fifth round. -/
theorem step4 : (k1_pay17 x y z j, k1_pay18 x y z j)
    = krnd 17#32 15#32 (sinj 42#32 466689008#32 1#32 (krnd 6#32 26#32 (k1_pay13 x y z j, k1_pay14 x y z j))) := rfl
/-- The sixth round. -/
theorem step5 : (k1_pay19 x y z j, k1_pay21 (k1_pay18 x y z) (k1_pay19 x y z) (k1_pay20 x y z) 3#32 j)
    = krnd 29#32 3#32 (k1_pay17 x y z j, k1_pay18 x y z j) := rfl
end

section
variable (x y z : IVec S4x1024x128 32) (j : S4x1024x128.Idx)
/-- The seventh round. -/
theorem step6 : (k1_pay22 x y z 3#32 j, k1_pay23 x y z 3#32 j) = krnd 16#32 16#32 (y j, k1_pay21 x y z 3#32 j) := rfl
/-- The eighth round, the second addition of the key and the ninth round. -/
theorem step7 : (k1_pay26 x y z 3#32 j, k1_pay27 x y z 3#32 j)
    = krnd 13#32 19#32 (sinj 466689008#32 0#32 2#32 (krnd 24#32 8#32 (k1_pay22 x y z 3#32 j, k1_pay23 x y z 3#32 j))) := rfl
/-- The tenth round. -/
theorem step8 : (k1_pay28 x y z 3#32 j, k1_pay29 x y z 3#32 j) = krnd 15#32 17#32 (k1_pay26 x y z 3#32 j, k1_pay27 x y z 3#32 j) := rfl
/-- The eleventh round. -/
theorem step9 : (k1_pay30 x y z 3#32 j, k1_pay31 x y z 3#32 j) = krnd 26#32 6#32 (k1_pay28 x y z 3#32 j, k1_pay29 x y z 3#32 j) := rfl
/-- The twelfth round, the third addition of the key and the thirteenth round. -/
theorem step10 : (k1_pay34 (k1_pay31 x y z 3#32) (k1_pay32 x y z 3#32) 6#32 j, k1_pay35 (k1_pay31 x y z 3#32) (k1_pay32 x y z 3#32) 6#32 j)
    = krnd 17#32 15#32 (sinj 0#32 42#32 3#32 (krnd 6#32 26#32 (k1_pay30 x y z 3#32 j, k1_pay31 x y z 3#32 j))) := rfl
end

section
variable (x y z : IVec S4x1024x128 32) (j : S4x1024x128.Idx)
/-- The fourteenth round. -/
theorem step11 : (k1_pay36 x y 6#32 j, k1_pay37 x y 6#32 j) = krnd 29#32 3#32 (k1_pay34 x y 6#32 j, k1_pay35 x y 6#32 j) := rfl
/-- The fifteenth round. -/
theorem step12 : (k1_pay38 x y 6#32 j, k1_pay39 x y 6#32 j) = krnd 16#32 16#32 (k1_pay36 x y 6#32 j, k1_pay37 x y 6#32 j) := rfl
/-- The sixteenth round and the fourth addition of the key. -/
theorem step13 : (k1_pay41 x y 6#32 j, IntOp.addi (k1_pay42 x y 6#32 j) 4#32)
    = sinj 42#32 466689008#32 4#32 (krnd 24#32 8#32 (k1_pay38 x y 6#32 j, k1_pay39 x y 6#32 j)) := rfl

/-- The float made of a word. -/
def unit {F : FTy → Type} [FloatOps F] (w : BitVec 32) : F .f32 :=
  FloatOps.addf (FloatOps.subf (Scalar.ofBits .f32 (IntOp.ori (IntOp.shrui .vector w 9#32) 1065353216#32)) (Scalar.ofBits .f32 0x3F800000#32))
    (Scalar.ofBits .f32 0x00800000#32)

/-- The last four rounds, the last step of the key schedule and the float made of the joined words. -/
theorem step14 {F : FTy → Type} [FloatOps F] (w0 : IVec S4x1024x128 32) (p1 p2 p3 p4 : BitVec 32 × BitVec 32) (h0 : addi y k1_pay43 = w0)
    (h1 : krnd 13#32 19#32 (x j, w0 j) = p1) (h2 : krnd 15#32 17#32 p1 = p2)
    (h3 : krnd 26#32 6#32 p2 = p3) (h4 : krnd 6#32 26#32 p3 = p4) :
    k1_pay44 (F := F) x y (k1_pay43) j = unit (IntOp.xori (sinj 466689008#32 0#32 5#32 p4).1 (sinj 466689008#32 0#32 5#32 p4).2) := by
  unfold k1_pay44
  rw [h0]
  generalize hA1 : addi x w0 = v1
  generalize hB1 : xori (ori (shli w0 (broadcast S4x1024x128 13#32)) (shrui w0 (broadcast S4x1024x128 19#32))) v1 = w1
  generalize hA2 : addi v1 w1 = v2
  generalize hB2 : xori (ori (shli w1 (broadcast S4x1024x128 15#32)) (shrui w1 (broadcast S4x1024x128 17#32))) v2 = w2
  generalize hA3 : addi v2 w2 = v3
  generalize hB3 : xori (ori (shli w2 (broadcast S4x1024x128 26#32)) (shrui w2 (broadcast S4x1024x128 6#32))) v3 = w3
  generalize hA4 : addi v3 w3 = v4
  generalize hB4 : xori (ori (shli w3 (broadcast S4x1024x128 6#32)) (shrui w3 (broadcast S4x1024x128 26#32))) v4 = w4
  have e1 : p1 = (v1 j, w1 j) := by rw [← h1, ← hB1, ← hA1]; rfl
  have e2 : p2 = (v2 j, w2 j) := by rw [← h2, e1, ← hB2, ← hA2]; rfl
  have e3 : p3 = (v3 j, w3 j) := by rw [← h3, e2, ← hB3, ← hA3]; rfl
  have e4 : p4 = (v4 j, w4 j) := by rw [← h4, e3, ← hB4, ← hA4]; rfl
  rw [e4]
  rfl
end

/-- The counter word of an entry of a block. -/
theorem count_at (i : grid1.Coords) (c : Fin 4) (k : Fin 1024) (l : Fin 128) :
    k1_pay5 i (ix3 c k l) = BitVec.ofNat 32 (4 * ((i 0).val * 131072 + (k.val * 128 + l.val)) + c.val) := by
  pointwise [k1_pay5]
  apply BitVec.eq_of_toNat_eq
  have h0 : ((i 0 : ℕ)) < 8 := (i 0).isLt
  have h1 := k.isLt
  have h2 := l.isLt
  have h3 := c.isLt
  simp [IntOp.addi, IntOp.muli, Scalar.muli]
  omega

/-- A kernel round of a known pair. -/
theorem krnd_of (r s : BitVec 32) (hr : r.toNat < 32) (hs : s.toNat < 32) {p q t : BitVec 32 × BitVec 32} (h : p = krnd r s q) (e : q = t) :
    p = srnd r s t := by rw [h, e, krnd_eq r s hr hs]

/-- A kernel round after a step of the key schedule and another round, of a known pair. -/
theorem krnd_inj_of (r s a b n r' s' : BitVec 32) (hr : r.toNat < 32) (hs : s.toNat < 32) (hr' : r'.toNat < 32) (hs' : s'.toNat < 32)
    {p q t : BitVec 32 × BitVec 32} (h : p = krnd r s (sinj a b n (krnd r' s' q))) (e : q = t) :
    p = srnd r s (sinj a b n (srnd r' s' t)) := by rw [h, e, krnd_eq r s hr hs, krnd_eq r' s' hr' hs']

section
variable (x y z : IVec S4x1024x128 32) (j : S4x1024x128.Idx)

/-- The first part of the rounds. -/
theorem part2_at (q : BitVec 32 × BitVec 32) (h : (y j, k1_pay8 x z j) = q) :
    (k1_pay19 x y z j, k1_pay21 (k1_pay18 x y z) (k1_pay19 x y z) (k1_pay20 x y z) 3#32 j)
      = srnd 29#32 3#32 (srnd 17#32 15#32 (sinj 42#32 466689008#32 1#32 (srnd 6#32 26#32 (srnd 26#32 6#32 (srnd 15#32 17#32 (srnd 13#32 19#32 q)))))) :=
  krnd_of _ _ (by decide) (by decide) (step5 x y z j)
    (krnd_inj_of _ _ _ _ _ _ _ (by decide) (by decide) (by decide) (by decide) (step4 x y z j)
      (krnd_of _ _ (by decide) (by decide) (step3 x y z j)
        (krnd_of _ _ (by decide) (by decide) (step2 x y z j) (krnd_of _ _ (by decide) (by decide) (step1 x y z j) h))))

/-- The second part of the rounds. -/
theorem part3_at (q : BitVec 32 × BitVec 32) (h : (y j, k1_pay21 x y z 3#32 j) = q) :
    (k1_pay34 (k1_pay31 x y z 3#32) (k1_pay32 x y z 3#32) 6#32 j, k1_pay35 (k1_pay31 x y z 3#32) (k1_pay32 x y z 3#32) 6#32 j)
      = srnd 17#32 15#32 (sinj 0#32 42#32 3#32 (srnd 6#32 26#32 (srnd 26#32 6#32 (srnd 15#32 17#32 (srnd 13#32 19#32
        (sinj 466689008#32 0#32 2#32 (srnd 24#32 8#32 (srnd 16#32 16#32 q)))))))) :=
  krnd_inj_of _ _ _ _ _ _ _ (by decide) (by decide) (by decide) (by decide) (step10 x y z j)
    (krnd_of _ _ (by decide) (by decide) (step9 x y z j)
      (krnd_of _ _ (by decide) (by decide) (step8 x y z j)
        (krnd_inj_of _ _ _ _ _ _ _ (by decide) (by decide) (by decide) (by decide) (step7 x y z j)
          (krnd_of _ _ (by decide) (by decide) (step6 x y z j) h))))

/-- The third part of the rounds. -/
theorem part4_at (q : BitVec 32 × BitVec 32) (h : (k1_pay34 x y 6#32 j, k1_pay35 x y 6#32 j) = q) :
    (k1_pay41 x y 6#32 j, IntOp.addi (k1_pay42 x y 6#32 j) 4#32)
      = sinj 42#32 466689008#32 4#32 (srnd 24#32 8#32 (srnd 16#32 16#32 (srnd 29#32 3#32 q))) := by
  rw [step13, krnd_of _ _ (by decide) (by decide) (step12 x y j) (krnd_of _ _ (by decide) (by decide) (step11 x y j) h),
    krnd_eq 24#32 8#32 (by decide) (by decide)]

/-- The last part of the rounds and the float. -/
theorem part5_at {F : FTy → Type} [FloatOps F] (q : BitVec 32 × BitVec 32) (h : (x j, IntOp.addi (y j) 4#32) = q) :
    k1_pay44 (F := F) x y (k1_pay43) j = unit (IntOp.xori
      (sinj 466689008#32 0#32 5#32 (srnd 6#32 26#32 (srnd 26#32 6#32 (srnd 15#32 17#32 (srnd 13#32 19#32 q))))).1
      (sinj 466689008#32 0#32 5#32 (srnd 6#32 26#32 (srnd 26#32 6#32 (srnd 15#32 17#32 (srnd 13#32 19#32 q))))).2) :=
  step14 x y j (addi y k1_pay43) (srnd 13#32 19#32 q) (srnd 15#32 17#32 (srnd 13#32 19#32 q)) (srnd 26#32 6#32 (srnd 15#32 17#32 (srnd 13#32 19#32 q)))
    (srnd 6#32 26#32 (srnd 26#32 6#32 (srnd 15#32 17#32 (srnd 13#32 19#32 q)))) rfl
    (krnd_of _ _ (by decide) (by decide) rfl h) (krnd_eq _ _ (by decide) (by decide) _) (krnd_eq _ _ (by decide) (by decide) _)
    (krnd_eq _ _ (by decide) (by decide) _)
end

/-- The draws of a block are made of the words of the entries' numbers. -/
theorem draws_at {F : FTy → Type} [FloatOps F] (i : grid1.Coords) (c : Fin 4) (k : Fin 1024) (l : Fin 128) :
    draws (F := F) i (ix3 c k l) = unit (word (4 * ((i 0).val * 131072 + (k.val * 128 + l.val)) + c.val)) := by
  unfold draws word smix
  have h8 : k1_pay8 (k1_pay5 i) k1_pay7 (ix3 c k l) = BitVec.ofNat 32 (4 * ((i 0).val * 131072 + (k.val * 128 + l.val)) + c.val) + 42#32 := by
    show IntOp.addi (k1_pay5 i (ix3 c k l)) 42#32 = _
    rw [count_at]; rfl
  have h6 : k1_pay6 (ix3 c k l) = 0#32 + 0#32 := rfl
  have hq := Prod.ext (x := (k1_pay6 (ix3 c k l), k1_pay8 (k1_pay5 i) k1_pay7 (ix3 c k l))) (y := (0#32 + 0#32, BitVec.ofNat 32 (4 * ((i 0).val * 131072 + (k.val * 128 + l.val)) + c.val) + 42#32)) h6 h8
  exact part5_at _ _ _ _ (part4_at _ _ _ _ (part3_at _ _ _ _ _ (part2_at _ _ _ _ _ hq)))

end Cert.Words
end
-- ==== Proof.Rows.lean ====
/-
  One row of the first result, as both programs compute it: the Gumbel draws of the row's four entries, the scores, the first
  class of greatest score, and the one-hot of that class with the softmax taken off and put back.
-/
module

public import proofs.«01_k».proof.Proof.Pick
public import proofs.«01_k».proof.Proof.Arith
public import proofs.«01_k».proof.Proof.WordsKernel

@[expose] public section

set_option maxHeartbeats 400000
set_option maxRecDepth 20000

noncomputable section

namespace Cert.Rows

open Idealize.ShloMosaic Cert.Words Cert.Pick Cert.Arith

/-- A Gumbel draw from a number of the unit interval. -/
def gum (u : EReal) : EReal := -(Ideal.log (-(Ideal.log (max (Ideal.ofBits .f32 8388608#32) u))))

/-- The scores of a row: the draws of its entries added to its values. -/
def score (y : Fin 4 → EReal) (r : ℕ) (c : Fin 4) : EReal := gum (unit (F := Ideal) (word (4 * r + c.val))) + y c

/-- Whether a class is the one picked. -/
def mark (n : BitVec 32) (c : Fin 4) : EReal := if BitVec.ofNat 32 c.val = n then 1 else 0

/-- The first result's row, of a row of values and their softmax. -/
def hotRow (y p : Fin 4 → EReal) (r : ℕ) (c : Fin 4) : EReal := mark (first (score y r)) c - p c + p c

/-- The kernel's mark. -/
theorem mark_kernel (n : BitVec 32) (c : Fin 4) :
    (FloatOps.sitofp .f32 (BitVec.setWidth 32 (IntOp.cmpi .eq (BitVec.ofNat 32 c.val) n)) : Ideal .f32) = mark n c := by
  unfold mark
  by_cases h : BitVec.ofNat 32 c.val = n
  · rw [if_pos h, h]
    have e : IntOp.cmpi .eq n n = 1#1 := by simp [IntOp.cmpi]
    rw [e]
    show (((BitVec.setWidth 32 1#1).toInt : ℝ) : EReal) = 1
    norm_num
  · rw [if_neg h]
    have e : IntOp.cmpi .eq (BitVec.ofNat 32 c.val) n = 0#1 := by
      simp only [IntOp.cmpi, beq_eq_false_iff_ne.mpr h]; rfl
    rw [e]
    show (((BitVec.setWidth 32 0#1).toInt : ℝ) : EReal) = 0
    norm_num

/-- The reference's mark. -/
theorem mark_reference (n : BitVec 32) (c : Fin 4) :
    (FloatOps.uitofp .f32 (IntOp.cmpi .eq n (BitVec.ofNat 32 c.val)) : Ideal .f32) = mark n c := by
  unfold mark
  by_cases h : BitVec.ofNat 32 c.val = n
  · rw [if_pos h, h]
    have e : IntOp.cmpi .eq n n = 1#1 := by simp [IntOp.cmpi]
    rw [e]
    show (((1#1 : BitVec 1).toNat : ℝ) : EReal) = 1
    norm_num
  · rw [if_neg h]
    have e : IntOp.cmpi .eq n (BitVec.ofNat 32 c.val) = 0#1 := by
      simp only [IntOp.cmpi, beq_eq_false_iff_ne.mpr (Ne.symm h)]; rfl
    rw [e]
    show (((0#1 : BitVec 1).toNat : ℝ) : EReal) = 0
    norm_num

end Cert.Rows
end
-- ==== Proof.Finite.lean ====
/-
  What the precondition says over the extended reals: every entry of the three arguments is a real number.
-/
module

public import proofs.«01_k».proof.Proof.Gen.Pre_finite
public import proofs.«01_k».proof.Proof.Rows

@[expose] public section

set_option maxHeartbeats 400000
set_option maxRecDepth 20000

noncomputable section

namespace Cert.Finite

open Idealize.ShloMosaic

/-- The word of positive infinity. -/
theorem top_word : Ideal.ofBits .f32 2139095040#32 = (⊤ : EReal) := by simp [Ideal.ofBits, Ideal.ieee]

/-- A number whose absolute value is below infinity is a real. -/
theorem real_of_abs (a : EReal) (h : Ideal.cmp .olt (max a (-a)) (Ideal.ofBits .f32 2139095040#32) = 1#1) : ∃ r : ℝ, a = (r : EReal) := by
  rw [top_word] at h
  induction a using EReal.rec with
  | bot => simp [Ideal.cmp] at h
  | top => simp [Ideal.cmp] at h
  | coe r => exact ⟨r, rfl⟩

/-- Two bits whose conjunction is one are both one. -/
theorem both {a b : BitVec 1} (h : a &&& b = 1#1) : a = 1#1 ∧ b = 1#1 := by
  revert a b; decide

/-- The predicate at an entry. -/
theorem fn_at (x : FVec Ideal Pre_finite.S1000000x4 .f32) (g b : FVec Ideal Pre_finite.S4 .f32) (r : Fin 1000000) (c : Fin 4) :
    Pre_finite.fn (F := Ideal) x g b (ix2 r c)
      = (Ideal.cmp .olt (max (x (ix2 r c) : EReal) (-(x (ix2 r c) : EReal))) (Ideal.ofBits .f32 2139095040#32)
          &&& Ideal.cmp .olt (max (g (ix1 c) : EReal) (-(g (ix1 c) : EReal))) (Ideal.ofBits .f32 2139095040#32))
        &&& Ideal.cmp .olt (max (b (ix1 c) : EReal) (-(b (ix1 c) : EReal))) (Ideal.ofBits .f32 2139095040#32) := by
  pointwise [Pre_finite.fn]
  rfl

/-- Under the precondition every entry is a real. -/
theorem reals (x : FVec Ideal Pre_finite.S1000000x4 .f32) (g b : FVec Ideal Pre_finite.S4 .f32)
    (h : Pre_finite.fn (F := Ideal) x g b = fun _ => 1#1) :
    (∃ X : Fin 1000000 → Fin 4 → ℝ, ∀ r c, x (ix2 r c) = (X r c : EReal))
      ∧ (∃ G : Fin 4 → ℝ, ∀ c, g (ix1 c) = (G c : EReal)) ∧ ∃ B : Fin 4 → ℝ, ∀ c, b (ix1 c) = (B c : EReal) := by
  have k : ∀ r c, _ := fun (r : Fin 1000000) (c : Fin 4) => (fn_at x g b r c).symm.trans (congrFun h (ix2 r c))
  have kx : ∀ r c, ∃ t : ℝ, x (ix2 r c) = (t : EReal) := fun r c => real_of_abs _ (both (both (k r c)).1).1
  have kg : ∀ c, ∃ t : ℝ, g (ix1 c) = (t : EReal) := fun c => real_of_abs _ (both (both (k 0 c)).1).2
  have kb : ∀ c, ∃ t : ℝ, b (ix1 c) = (t : EReal) := fun c => real_of_abs _ (both (k 0 c)).2
  choose X hX using kx
  choose G hG using kg
  choose B hB using kb
  exact ⟨⟨X, hX⟩, ⟨G, hG⟩, ⟨B, hB⟩⟩

end Cert.Finite
end
-- ==== Proof.StatsBodyKernelIdeal.lean ====
/-
  The body of the first pallas_call, as a statement about memory: at the first point it clears the two
  accumulators, then it adds the block's lane sums and lane sums of squares into their first four rows.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.WritesUnit
public import Idealize.ShloMosaic.Lib.Pointwise
public import Idealize.ShloMosaic.Lib.Tactic

@[expose] public section

set_option maxRecDepth 16384

noncomputable section

namespace Cert.KernelIdeal.StatsBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A load of a whole buffer reads what the buffer reads. -/
theorem readAt_whole {s : Shape} {sp : Space} {e : EltTy} (v : View sig .tc sp s e) (f : v.ty.Contents (Elt F))
    {off : Fin s.rank → Nat} (h0 : off = fun _ => 0) (h : ∀ a, off a + s.size a ≤ s.size a) :
    v.readAt (Elt F) (Rect.unit (s := s) off s.size h).toLoadRect f = v.read (Elt F) f :=
  View.ld_unit_zero h0 h (v.read (Elt F) f)

/-- A store of a whole buffer leaves its payload, whatever was there. -/
theorem read_write_whole {s : Shape} {sp : Space} {e : EltTy} (v : View sig .tc sp s e) (f : v.ty.Contents (Elt F))
    {off : Fin s.rank → Nat} (h0 : off = fun _ => 0) (h : ∀ a, off a + s.size a ≤ s.size a) (w : s.Idx → Elt F e) :
    v.read (Elt F) (v.writes (Elt F) f [⟨Rect.unit (s := s) off s.size h, w⟩]) = w := by
  funext y
  exact View.read_writes_cons_unit_of_mem v f h w [] y y h0 fun a => (Nat.zero_add _).symm

/-- The first four rows of an accumulator. -/
abbrev r4 : Rect S8x128 := Rect.unit (s := S8x128) ![0, 0] S4x128.size inb_S8x128_S4x128_0_0

/-- An accumulator with its first four rows replaced. -/
def upd (A : S8x128.Idx → Elt F .f32) (P : S4x128.Idx → Elt F .f32) : S8x128.Idx → Elt F .f32 := fun y =>
  if h : (y 0 : ℕ) < 4 then P (ix2 ⟨(y 0 : ℕ), h⟩ (y 1)) else A y

/-- The first four rows of an accumulator, read. -/
def top (A : S8x128.Idx → Elt F .f32) : S4x128.Idx → Elt F .f32 := View.ld A r4

/-- Of two replacements of the first four rows the later one stays. -/
theorem upd_upd (A : S8x128.Idx → Elt F .f32) (P Q : S4x128.Idx → Elt F .f32) : upd (upd A P) Q = upd A Q := by
  funext y; unfold upd; split <;> rfl

/-- Reading the first four rows. -/
theorem readAt_top {sp : Space} (v : View sig .tc sp S8x128 .f32) (f : v.ty.Contents (Elt F)) :
    v.readAt (Elt F) r4.toLoadRect f = top (v.read (Elt F) f) := rfl

/-- A store over the first four rows. -/
theorem read_write_top {sp : Space} (v : View sig .tc sp S8x128 .f32) (f : v.ty.Contents (Elt F))
    (P : S4x128.Idx → Elt F .f32) (L : List (View.Piece (Elt F) S8x128 .f32)) :
    v.read (Elt F) (v.writes (Elt F) f (⟨r4, P⟩ :: L)) = upd (v.read (Elt F) (v.writes (Elt F) f L)) P := by
  funext y
  unfold upd
  by_cases h : (y 0 : ℕ) < 4
  · rw [dif_pos h]
    refine View.read_writes_cons_unit_of_mem v f inb_S8x128_S4x128_0_0 P L y (ix2 ⟨(y 0 : ℕ), h⟩ (y 1)) rfl fun a => ?_
    fin_cases a <;> simp [ix2]
  · rw [dif_neg h]
    refine View.read_writes_cons_unit_of_not_mem v f inb_S8x128_S4x128_0_0 P L y rfl 0 (Or.inr ?_)
    simpa using h

/-- Reading the first four rows of an accumulator just overwritten whole. -/
theorem readCov_top {sp : Space} (v : View sig .tc sp S8x128 .f32) {off : Fin 2 → Nat} (h0 : off = fun _ => 0)
    (h : ∀ a, off a + S8x128.size a ≤ S8x128.size a) (w : S8x128.Idx → Elt F .f32) :
    v.readCov [(⟨Rect.unit (s := S8x128) off S8x128.size h, w⟩ : View.Piece (Elt F) S8x128 .f32)] r4.toLoadRect = top w := by
  rw [View.readCov_eq_canon', View.canon_unit_zero (S := S8x128) h0 h w]
  rfl

/-- An accumulator cleared and then added to. -/
theorem read_write_clear {sp : Space} (v : View sig .tc sp S8x128 .f32) (f : v.ty.Contents (Elt F)) {off : Fin 2 → Nat} (h0 : off = fun _ => 0)
    (h : ∀ a, off a + S8x128.size a ≤ S8x128.size a) (w : S8x128.Idx → Elt F .f32) (G : (S4x128.Idx → Elt F .f32) → S4x128.Idx → Elt F .f32) :
    v.read (Elt F) (v.writes (Elt F) f [⟨r4, G (v.readCov [(⟨Rect.unit (s := S8x128) off S8x128.size h, w⟩ : View.Piece (Elt F) S8x128 .f32)] r4.toLoadRect)⟩,
      ⟨Rect.unit (s := S8x128) off S8x128.size h, w⟩]) = upd w (G (top w)) := by
  rw [read_write_top, read_write_whole v f h0, readCov_top v h0 h w]

/-- The statement's precondition and postcondition: the block kept, the accumulators from `A`, `B` to `A'`, `B'`. -/
def Triple (c : Dev nD) (i : grid0.Coords) (X : S4x131072.Idx → Elt F .f32) (A B A' B' : S8x128.Idx → Elt F .f32) : Prop :=
  ∀ (E : Set ℕ)
    (a1 : Memref sig .tc .vmem S4x131072 .f32) (h1 : a1.IsWhole) (a2 : Memref sig .tc .vmem S8x128 .f32) (h2 : a2.IsWhole)
    (a3 : Memref sig .tc .vmem S8x128 .f32) (h3 : a3.IsWhole) (K : PUnit → sProp 𝕄),
    iprop((owns (c : Thread nD τ) a1 fullShare X ∗ owns (c : Thread nD τ) a2 fullShare A ∗ owns (c : Thread nD τ) a3 fullShare B)
        ∗ (iprop(owns (c : Thread nD τ) a1 fullShare X ∗ owns (c : Thread nD τ) a2 fullShare A'
            ∗ owns (c : Thread nD τ) a3 fullShare B') -∗ K ⟨⟩))
      ⊢ wp frame (wpE (defs₀ (F := F)) Variants.none c none) E (cc0__stats_kernel i a1 h1 a2 h2 a3 h3) K

/-- At the first point the accumulators are cleared and the whole block is added. -/
theorem sound_first (c : Dev nD) (i : grid0.Coords) (k1 : k0_cond1 i = 1#1) (k2 : k0_cond2 i = 1#1) (k3 : ¬ k0_cond3 i = 1#1)
    (X : S4x131072.Idx → Elt F .f32) (A B : S8x128.Idx → Elt F .f32) :
    Triple c i X A B (upd (k0_pay1 (F := F)) (k0_pay4 X (top (k0_pay1 (F := F))))) (upd (k0_pay2 (F := F)) (k0_pay5 X (top (k0_pay2 (F := F))))) := by
  intro E a1 h1 a2 h2 a3 h3 K
  have hz : (![0, 0] : Fin 2 → Nat) = fun _ => 0 := funext fun a => by fin_cases a <;> rfl
  simp only [cc0__stats_kernel_eq_skeleton]; unfold cc0__stats_kernel_skel owns
  simp only [dif_pos k1, dif_pos k2, dif_neg k3]
  iintro ⟨⟨⟨%f1, %hf1, H1⟩, ⟨%f2, %hf2, H2⟩, ⟨%f3, %hf3, H3⟩⟩, Hk⟩
  subst hf1
  sl_exec
  sl_step
  iapply Hk
  isplitl [H1]
  · iexists f1; isplitr; · ipureintro; rfl
    iexact H1
  isplitl [H2]
  · iexists _; isplitr
    swap; · iexact H2
    ipureintro
    rw [← readAt_whole a1.view f1 hz inb_S4x131072_S4x131072_0_0]
    exact read_write_clear a2.view f2 hz inb_S8x128_S8x128_0_0 _ (k0_pay4 _)
  · iexists _; isplitr
    swap; · iexact H3
    ipureintro
    rw [← readAt_whole a1.view f1 hz inb_S4x131072_S4x131072_0_0]
    exact read_write_clear a3.view f3 hz inb_S8x128_S8x128_0_0 _ (k0_pay5 _)

/-- At a middle point the whole block is added. -/
theorem sound_mid (c : Dev nD) (i : grid0.Coords) (k1 : ¬ k0_cond1 i = 1#1) (k2 : k0_cond2 i = 1#1) (k3 : ¬ k0_cond3 i = 1#1)
    (X : S4x131072.Idx → Elt F .f32) (A B : S8x128.Idx → Elt F .f32) :
    Triple c i X A B (upd A (k0_pay4 X (top A))) (upd B (k0_pay5 X (top B))) := by
  intro E a1 h1 a2 h2 a3 h3 K
  have hz : (![0, 0] : Fin 2 → Nat) = fun _ => 0 := funext fun a => by fin_cases a <;> rfl
  simp only [cc0__stats_kernel_eq_skeleton]; unfold cc0__stats_kernel_skel owns
  simp only [dif_neg k1, dif_pos k2, dif_neg k3]
  iintro ⟨⟨⟨%f1, %hf1, H1⟩, ⟨%f2, %hf2, H2⟩, ⟨%f3, %hf3, H3⟩⟩, Hk⟩
  subst hf1 hf2 hf3
  sl_exec
  sl_step
  iapply Hk
  isplitl [H1]
  · iexists f1; isplitr; · ipureintro; rfl
    iexact H1
  isplitl [H2]
  · iexists _; isplitr
    swap; · iexact H2
    ipureintro
    refine (read_write_top a2.view f2 _ _).trans ?_
    exact congrArg (fun z => upd (a2.view.read (Elt F) f2) (k0_pay4 z (top (a2.view.read (Elt F) f2))))
      (readAt_whole a1.view f1 hz inb_S4x131072_S4x131072_0_0)
  · iexists _; isplitr
    swap; · iexact H3
    ipureintro
    refine (read_write_top a3.view f3 _ _).trans ?_
    exact congrArg (fun z => upd (a3.view.read (Elt F) f3) (k0_pay5 z (top (a3.view.read (Elt F) f3))))
      (readAt_whole a1.view f1 hz inb_S4x131072_S4x131072_0_0)

/-- At the last point the part of the block inside the array is added. -/
theorem sound_last (c : Dev nD) (i : grid0.Coords) (k1 : ¬ k0_cond1 i = 1#1) (k2 : ¬ k0_cond2 i = 1#1) (k3 : k0_cond3 i = 1#1)
    (X : S4x131072.Idx → Elt F .f32) (A B : S8x128.Idx → Elt F .f32) :
    Triple c i X A B (upd A (k0_pay7 i X (top A))) (upd B (k0_pay8 i X (top B))) := by
  intro E a1 h1 a2 h2 a3 h3 K
  have hz : (![0, 0] : Fin 2 → Nat) = fun _ => 0 := funext fun a => by fin_cases a <;> rfl
  simp only [cc0__stats_kernel_eq_skeleton]; unfold cc0__stats_kernel_skel owns
  simp only [dif_neg k1, dif_neg k2, dif_pos k3]
  iintro ⟨⟨⟨%f1, %hf1, H1⟩, ⟨%f2, %hf2, H2⟩, ⟨%f3, %hf3, H3⟩⟩, Hk⟩
  subst hf1 hf2 hf3
  sl_exec
  sl_step
  iapply Hk
  isplitl [H1]
  · iexists f1; isplitr; · ipureintro; rfl
    iexact H1
  isplitl [H2]
  · iexists _; isplitr
    swap; · iexact H2
    ipureintro
    refine (read_write_top a2.view f2 _ _).trans ?_
    exact congrArg (fun z => upd (a2.view.read (Elt F) f2) (k0_pay7 i z (top (a2.view.read (Elt F) f2))))
      (readAt_whole a1.view f1 hz inb_S4x131072_S4x131072_0_0)
  · iexists _; isplitr
    swap; · iexact H3
    ipureintro
    refine (read_write_top a3.view f3 _ _).trans ?_
    exact congrArg (fun z => upd (a3.view.read (Elt F) f3) (k0_pay8 i z (top (a3.view.read (Elt F) f3))))
      (readAt_whole a1.view f1 hz inb_S4x131072_S4x131072_0_0)

end Cert.KernelIdeal.StatsBody

end
-- ==== Proof.StatsRegionKernelIdeal.lean ====
/-
  The proof data of the first pallas_call: what its staging buffers hold after each grid point. The eighth block of the
  input overhangs the array by part of its columns; what the staging buffer holds there is unknown, and the masked sum of
  the last point does not depend on it.
-/
module

public import proofs.«01_k».proof.Proof.StatsBodyKernelIdeal
public import Idealize.ShloMosaic.Lib.Pipeline.Frame
public import Idealize.ShloMosaic.Lib.WordCmp

@[expose] public section

set_option maxRecDepth 16384

noncomputable section

namespace Cert.KernelIdeal.StatsRegion

open Cert.KernelIdeal Cert.KernelIdeal.Gen Cert.KernelIdeal.StatsBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input block of a point, its columns inside the array. -/
def xblk (c : Dev nD) (t : Fin cfg0.N) : (win0_0.xblock (grid0.coords t)).Idx → Elt F .f32 :=
  (win0_0.blk t).view.read (Elt F) (V c (Pipeline.arrRef spec0 0))

/-- The input block of a point, filled out with zeros past the array's end. -/
def x8 (c : Dev nD) (t : Fin cfg0.N) : S4x131072.Idx → Elt F .f32 :=
  win0_0.fill (grid0.coords t) (fun _ => Scalar.ofBits .f32 0#32) (xblk V c t)

/-- The accumulator of the sums after point `n`. -/
def accA (c : Dev nD) : (n : ℕ) → n < cfg0.N → S8x128.Idx → Elt F .f32
  | 0, h => upd (k0_pay1 (F := F)) (k0_pay4 (x8 V c ⟨0, h⟩) (top (k0_pay1 (F := F))))
  | n + 1, h =>
    if n + 1 < 7 then upd (accA c n (Nat.lt_of_succ_lt h)) (k0_pay4 (x8 V c ⟨n + 1, h⟩) (top (accA c n (Nat.lt_of_succ_lt h))))
    else upd (accA c n (Nat.lt_of_succ_lt h)) (k0_pay7 (grid0.coords ⟨n + 1, h⟩) (x8 V c ⟨n + 1, h⟩) (top (accA c n (Nat.lt_of_succ_lt h))))

/-- The accumulator of the sums of squares after point `n`. -/
def accB (c : Dev nD) : (n : ℕ) → n < cfg0.N → S8x128.Idx → Elt F .f32
  | 0, h => upd (k0_pay2 (F := F)) (k0_pay5 (x8 V c ⟨0, h⟩) (top (k0_pay2 (F := F))))
  | n + 1, h =>
    if n + 1 < 7 then upd (accB c n (Nat.lt_of_succ_lt h)) (k0_pay5 (x8 V c ⟨n + 1, h⟩) (top (accB c n (Nat.lt_of_succ_lt h))))
    else upd (accB c n (Nat.lt_of_succ_lt h)) (k0_pay8 (grid0.coords ⟨n + 1, h⟩) (x8 V c ⟨n + 1, h⟩) (top (accB c n (Nat.lt_of_succ_lt h))))

/-- The proof data: the arrays at their entry contents, the input block kept, the two accumulators. -/
def dat (c : Dev nD) : Dat τ (Elt F) Unit ℕ (UR sig nD τ) ℕ cfg0 c where
  A w := V c (Pipeline.arrRef spec0 w)
  after w t := match w with
    | ⟨0, _⟩ => x8 V c t
    | ⟨1, _⟩ => accA V c t.val t.isLt
    | ⟨2, _⟩ => accB V c t.val t.isLt
  Φ _ := Pipeline.scopedRest spec0 c
  q _ := fullShare
  owed _ := 0

/-- What the body finds in the input's buffer: the block, with anything past the array's end. -/
theorem before_0 (c : Dev nD) (t : Fin cfg0.N) (d) :
    (dat V c).before (0 : Fin 3) t d = win0_0.fill (grid0.coords t) d (xblk V c t) := by
  unfold Dat.before; rw [if_pos (fetch0_0 t)]; rfl

/-- No point is idle for the accumulators. -/
theorem live (w : Fin 3) : ∀ i : grid0.Coords, cfg0.idle w i = false := by
  revert w; decide +kernel

/-- The accumulators at a later point hold what the point before left. -/
theorem before_1 (c : Dev nD) (n : ℕ) (h : n + 1 < cfg0.N) (d) :
    (dat V c).before (1 : Fin 3) ⟨n + 1, h⟩ d = accA V c n (Nat.lt_of_succ_lt h) :=
  (dat V c).before_out_kept 1 rfl ⟨n + 1, h⟩ (Nat.succ_ne_zero n)
    (by have hN : n + 1 < 8 := lt_of_lt_of_eq h N_0
        by_contra hc
        have := (flush0_1 _).mp (Bool.not_eq_false _ ▸ hc)
        simp only [Nat.add_sub_cancel] at this
        omega) (live 1) (fun _ _ => rfl) d

/-- What the second accumulator holds before a later grid step. -/
theorem before_2 (c : Dev nD) (n : ℕ) (h : n + 1 < cfg0.N) (d) :
    (dat V c).before (2 : Fin 3) ⟨n + 1, h⟩ d = accB V c n (Nat.lt_of_succ_lt h) :=
  (dat V c).before_out_kept 2 rfl ⟨n + 1, h⟩ (Nat.succ_ne_zero n)
    (by have hN : n + 1 < 8 := lt_of_lt_of_eq h N_0
        by_contra hc
        have := (flush0_2 _).mp (Bool.not_eq_false _ ▸ hc)
        simp only [Nat.add_sub_cancel] at this
        omega) (live 2) (fun _ _ => rfl) d

/-- The first seven blocks lie inside the array. -/
theorem clip_none : ∀ t : Fin cfg0.N, t.val < 7 → ∀ a, win0_0.clip (grid0.coords t) a = none :=
  (by decide +kernel : ∀ t : Fin grid0.N, t.val < 7 → ∀ a, win0_0.clip (grid0.coords t) a = none)

/-- A full block leaves nothing of what the window held. -/
theorem fill_full (t : Fin cfg0.N) (ht : t.val < 7) (d d' : S4x131072.Idx → Elt F .f32) (g) :
    win0_0.fill (grid0.coords t) d g = win0_0.fill (grid0.coords t) d' g :=
  Pipeline.fill_of_clip_none (cfg := cfg0) 0 (grid0.coords t) (clip_none t ht) d d' g

/-- The columns of the last block inside the array. -/
theorem xsize_last : ∀ t : Fin cfg0.N, ¬ t.val < 7 → win0_0.xsize (grid0.coords t) = ![4, 82496] ∧ ((grid0.coords t) 0 : ℕ) = 7 :=
  (by decide +kernel : ∀ t : Fin grid0.N, ¬ t.val < 7 → win0_0.xsize (grid0.coords t) = ![4, 82496] ∧ ((grid0.coords t) 0 : ℕ) = 7)

/-- The last block leaves nothing of what the window held in the columns inside the array. -/
theorem fill_last (t : Fin cfg0.N) (ht : ¬ t.val < 7) (d d' : S4x131072.Idx → Elt F .f32) (g) (a : Fin 4) (b : Fin 131072) (hb : b.val < 82496) :
    win0_0.fill (grid0.coords t) d g (ix2 a b) = win0_0.fill (grid0.coords t) d' g (ix2 a b) := by
  have hm : win0_0.moved (grid0.coords t) (ix2 a b) = true := (win0_0.moved_iff _ _).mpr fun x => by
    rw [(xsize_last t ht).1]
    fin_cases x
    · exact a.isLt
    · exact hb
  unfold Window.fill; rw [dif_pos hm, dif_pos hm]

/-- The mask of the last point, as a condition on the column. -/
theorem mask_last (j1 : Fin 1024) (j2 : Fin 128) :
    IntOp.cmpi CmpIPredicate.slt
        (IntOp.addi (IntOp.addi (Scalar.muli 7#32 131072#32) (IntOp.muli (BitVec.ofNat 32 ↑j1) 128#32))
          (BitVec.ofNat 32 ↑j2)) 1000000#32 = if j1.val * 128 + j2.val < 82496 then 1#1 else 0#1 := by
  have h1 := j1.isLt
  have h2 := j2.isLt
  have e : IntOp.addi (IntOp.addi (Scalar.muli 7#32 131072#32) (IntOp.muli (BitVec.ofNat 32 ↑j1) 128#32))
          (BitVec.ofNat 32 ↑j2) = BitVec.ofNat 32 (917504 + (j1.val * 128 + j2.val)) := by
    apply BitVec.eq_of_toNat_eq
    simp [IntOp.addi, IntOp.muli, Scalar.muli]
    omega
  rw [e]
  have e1 : (BitVec.ofNat 32 (917504 + (j1.val * 128 + j2.val))).toInt = 917504 + (j1.val * 128 + j2.val : ℕ) := by
    rw [BitVec.toInt_eq_toNat_of_lt] <;> simp <;> omega
  by_cases h : j1.val * 128 + j2.val < 82496
  · rw [if_pos h]
    simp only [IntOp.cmpi, BitVec.slt, e1]
    rw [decide_eq_true (by simp; omega)]; rfl
  · rw [if_neg h]
    simp only [IntOp.cmpi, BitVec.slt, e1]
    rw [decide_eq_false (by simp; omega)]; rfl

/-- The masked block of the last point reads only columns inside the array. -/
theorem pay6_congr (i : grid0.Coords) (hi : (i 0 : ℕ) = 7) (X X' : S4x131072.Idx → Elt F .f32)
    (h : ∀ (a : Fin 4) (b : Fin 131072), b.val < 82496 → X (ix2 a b) = X' (ix2 a b)) : k0_pay6 i X = k0_pay6 i X' := by
  funext j
  idx_vars j
  pointwise [k0_pay6, k0_pay3, hi]
  rw [mask_last]
  by_cases hc : j1.val * 128 + j2.val < 82496
  · rw [h _ _ hc]
  · rw [if_neg hc]; rfl

/-- The last update of the sums depends on the columns inside the array only. -/
theorem pay7_congr (i : grid0.Coords) (hi : (i 0 : ℕ) = 7) (X X' : S4x131072.Idx → Elt F .f32) (P : S4x128.Idx → Elt F .f32)
    (h : ∀ (a : Fin 4) (b : Fin 131072), b.val < 82496 → X (ix2 a b) = X' (ix2 a b)) : k0_pay7 i X P = k0_pay7 i X' P := by
  unfold k0_pay7; rw [pay6_congr i hi X X' h]

/-- The last update of the sums of squares depends on the columns inside the array only. -/
theorem pay8_congr (i : grid0.Coords) (hi : (i 0 : ℕ) = 7) (X X' : S4x131072.Idx → Elt F .f32) (P : S4x128.Idx → Elt F .f32)
    (h : ∀ (a : Fin 4) (b : Fin 131072), b.val < 82496 → X (ix2 a b) = X' (ix2 a b)) : k0_pay8 i X P = k0_pay8 i X' P := by
  unfold k0_pay8; rw [pay6_congr i hi X X' h]

/-- The conditions of the body at each point. -/
theorem conds : ∀ t : Fin cfg0.N,
    (k0_cond1 (grid0.coords t) = 1#1 ↔ t.val = 0) ∧ (k0_cond2 (grid0.coords t) = 1#1 ↔ t.val < 7)
      ∧ (k0_cond3 (grid0.coords t) = 1#1 ↔ ¬ t.val < 7) :=
  (by decide +kernel : ∀ t : Fin grid0.N,
    (k0_cond1 (grid0.coords t) = 1#1 ↔ t.val = 0) ∧ (k0_cond2 (grid0.coords t) = 1#1 ↔ t.val < 7)
      ∧ (k0_cond3 (grid0.coords t) = 1#1 ↔ ¬ t.val < 7))

/-- The body at a point, from what it finds to what it leaves. -/
theorem sound_point (c : Dev nD) (t : Fin cfg0.N) (d0 d1 d2) :
    Triple (F := F) c (grid0.coords t) (win0_0.fill (grid0.coords t) d0 (xblk V c t))
      ((dat V c).before (1 : Fin 3) t d1) ((dat V c).before (2 : Fin 3) t d2) (accA V c t.val t.isLt) (accB V c t.val t.isLt) := by
  obtain ⟨n, hn⟩ := t
  obtain ⟨k1, k2, k3⟩ := conds ⟨n, hn⟩
  cases n with
  | zero =>
    rw [fill_full ⟨0, hn⟩ (Nat.zero_lt_succ 6) d0 (fun _ => Scalar.ofBits .f32 0#32)]
    exact sound_first c _ (k1.mpr rfl) (k2.mpr (Nat.zero_lt_succ 6)) (fun h => (k3.mp h) (Nat.zero_lt_succ 6)) (x8 V c ⟨0, hn⟩) _ _
  | succ n =>
    rw [before_1 V c n hn d1, before_2 V c n hn d2]
    by_cases h7 : n + 1 < 7
    · rw [fill_full ⟨n + 1, hn⟩ h7 d0 (fun _ => Scalar.ofBits .f32 0#32)]
      have := sound_mid c _ (fun h => Nat.succ_ne_zero n (k1.mp h)) (k2.mpr h7) (fun h => (k3.mp h) h7) (x8 V c ⟨n + 1, hn⟩)
        (accA V c n (Nat.lt_of_succ_lt hn)) (accB V c n (Nat.lt_of_succ_lt hn))
      simp only [accA, accB, if_pos h7]
      exact this
    · have hx : ∀ (a : Fin 4) (b : Fin 131072), b.val < 82496 →
          win0_0.fill (grid0.coords ⟨n + 1, hn⟩) d0 (xblk V c ⟨n + 1, hn⟩) (ix2 a b) = x8 V c ⟨n + 1, hn⟩ (ix2 a b) :=
        fun a b hb => fill_last ⟨n + 1, hn⟩ h7 d0 _ _ a b hb
      have := sound_last c _ (fun h => Nat.succ_ne_zero n (k1.mp h)) (fun h => h7 (k2.mp h)) (k3.mpr h7)
        (win0_0.fill (grid0.coords ⟨n + 1, hn⟩) d0 (xblk V c ⟨n + 1, hn⟩))
        (accA V c n (Nat.lt_of_succ_lt hn)) (accB V c n (Nat.lt_of_succ_lt hn))
      simp only [accA, accB, if_neg h7]
      rw [pay7_congr _ (xsize_last ⟨n + 1, hn⟩ h7).2 _ _ _ hx, pay8_congr _ (xsize_last ⟨n + 1, hn⟩ h7).2 _ _ _ hx] at this
      exact this

/-- The library's body obligation. -/
theorem body_obligation (c : Dev nD) : BodyObligationLoose (dat V c) (defs₀ (F := F)) Variants.none () Set.univ := fun t => by
  rw [bigSep_W0, bigSep_W0]
  have l1 : cfg0.idle 1 (cfg0.grid.coords t) = false := live 1 _
  rw [l1]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩⟩
  rw [before_0 V c t d0]
  iapply (sound_point V c t d0 d1 d2 Set.univ (stage0_0 (cfg0.slots t 0)) (hstage0_0 ((cfg0.slots t 0).cast nbuf0_0))
    (stage0_1 (cfg0.slots t 1)) (hstage0_1 ((cfg0.slots t 1).cast nbuf0_1)) (stage0_2 (cfg0.slots t 2)) (hstage0_2 ((cfg0.slots t 2).cast nbuf0_2)) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (x8 V c t) = xblk V c t := win0_0.cut_fill _ _ _
  isplitl [H0]
  · iexists d0
    change _ ⊢ owns (c : Thread nD τ) (stage0_0 (cfg0.slots t 0)) fullShare (win0_0.fill (grid0.coords t) d0 (win0_0.cut (grid0.coords t) (x8 V c t)))
    rw [hx]; try iexact H0
  isplitl [H1]
  · iexact H1
  · iexact H2

end Cert.KernelIdeal.StatsRegion

end
-- ==== Proof.MainColsKernelIdeal.lean ====
/-
  What the second body stores in a column depends on that column of its input block alone.
-/
module

public import proofs.«01_k».proof.Proof.MainBodyKernelIdeal

@[expose] public section

set_option maxRecDepth 16384

noncomputable section

namespace Cert.KernelIdeal.MainCols

open Cert.KernelIdeal Cert.KernelIdeal.Gen Cert.KernelIdeal.MainBody
open Idealize.ShloMosaic Idealize.ShloMosaic.TcCoe Idealize.SL.Sem

variable {F : FTy → Type} [FloatOps F]

/-- Blocks that agree on a column give the same scaled values there. -/
theorem pay2_congr (X X' : FVec F S4x131072 .f32) (A : FVec F S8x128 .f32) (k : Fin 1024) (l : Fin 128)
    (h : ∀ a : Fin 4, X (ix2 a ⟨k.val * 128 + l.val, by omega⟩) = X' (ix2 a ⟨k.val * 128 + l.val, by omega⟩)) (a : Fin 4) :
    k1_pay2 X A (ix3 a k l) = k1_pay2 X' A (ix3 a k l) := by
  pointwise [k1_pay2, h]

/-- Blocks that agree on a column give the same exponentials there. -/
theorem pay4_congr (X X' : FVec F S4x131072 .f32) (A : FVec F S8x128 .f32) (k : Fin 1024) (l : Fin 128)
    (h : ∀ a : Fin 4, X (ix2 a ⟨k.val * 128 + l.val, by omega⟩) = X' (ix2 a ⟨k.val * 128 + l.val, by omega⟩)) (a : Fin 4) :
    k1_pay4 X A (ix3 a k l) = k1_pay4 X' A (ix3 a k l) := by
  pointwise [k1_pay4, pay2_congr X X' A k l h]

/-- The one-hot column depends on the values of that column only. -/
theorem pay1_congr (v v' w w' : FVec F S4x1024x128 .f32) (n : IVec S4x1024x128 32) (u : FVec F S4x1024x128 .f32) (b : Fin 131072)
    (hv : ∀ a : Fin 4, v (ix3 a ⟨b.val / 128, by omega⟩ ⟨b.val % 128, by omega⟩) = v' (ix3 a ⟨b.val / 128, by omega⟩ ⟨b.val % 128, by omega⟩))
    (hw : ∀ a : Fin 4, w (ix3 a ⟨b.val / 128, by omega⟩ ⟨b.val % 128, by omega⟩) = w' (ix3 a ⟨b.val / 128, by omega⟩ ⟨b.val % 128, by omega⟩))
    (a : Fin 4) : k1_pay1 v w n u (ix2 a b) = k1_pay1 v' w' n u (ix2 a b) := by
  pointwise [k1_pay1, hv, hw]

/-- A column is its group of lanes and its lane. -/
theorem col_eq (b : Fin 131072) : (⟨(⟨b.val / 128, by omega⟩ : Fin 1024).val * 128 + (⟨b.val % 128, by omega⟩ : Fin 128).val, by show b.val / 128 * 128 + b.val % 128 < _; omega⟩ : Fin 131072) = b :=
  Fin.ext (by show b.val / 128 * 128 + b.val % 128 = b.val; omega)

/-- The one-hot block. -/
theorem hot_congr (i : grid1.Coords) (X X' : FVec F S4x131072 .f32) (A : FVec F S8x128 .f32) (b : Fin 131072)
    (h : ∀ a : Fin 4, X (ix2 a b) = X' (ix2 a b)) (a : Fin 4) : hotBlk i X A (ix2 a b) = hotBlk i X' A (ix2 a b) :=
  pay1_congr _ _ _ _ _ _ b (pay2_congr X X' A _ _ (fun a => by rw [col_eq]; exact h a))
    (pay4_congr X X' A _ _ (fun a => by rw [col_eq]; exact h a)) a

/-- The scaled block. -/
theorem scaled_congr (X X' : FVec F S4x131072 .f32) (A : FVec F S8x128 .f32) (b : Fin 131072)
    (h : ∀ a : Fin 4, X (ix2 a b) = X' (ix2 a b)) (a : Fin 4) : scaledBlk X A (ix2 a b) = scaledBlk X' A (ix2 a b) := by
  have := pay2_congr X X' A ⟨b.val / 128, by omega⟩ ⟨b.val % 128, by omega⟩ (fun a => by rw [col_eq]; exact h a) a
  pointwise [scaledBlk, k1_pay3, this]

end Cert.KernelIdeal.MainCols

end
-- ==== Proof.MainRegionKernelIdeal.lean ====
/-
  The proof data of the second pallas_call: what its staging buffers hold after each grid point. The blocks of the eighth
  point overhang the arrays; nothing is said of what the buffers hold there.
-/
module

public import proofs.«01_k».proof.Proof.MainColsKernelIdeal
public import Idealize.ShloMosaic.Lib.Pipeline.Frame

@[expose] public section

set_option maxRecDepth 16384

noncomputable section

namespace Cert.KernelIdeal.MainRegion

open Cert.KernelIdeal Cert.KernelIdeal.Gen Cert.KernelIdeal.MainBody Cert.KernelIdeal.MainCols
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input block of a point, its columns inside the array. -/
def xblk (c : Dev nD) (t : Fin cfg1.N) : (win1_0.xblock (grid1.coords t)).Idx → Elt F .f32 :=
  (win1_0.blk t).view.read (Elt F) (V c (Pipeline.arrRef spec1 0))

/-- The input block of a point, filled out with zeros past the array's end. -/
def x8 (c : Dev nD) (t : Fin cfg1.N) : S4x131072.Idx → Elt F .f32 :=
  win1_0.fill (grid1.coords t) (fun _ => Scalar.ofBits .f32 0#32) (xblk V c t)

/-- The scale and shift rows, staged once. -/
def aux (c : Dev nD) (t : Fin cfg1.N) : S8x128.Idx → Elt F .f32 :=
  (win1_1.blk t).view.read (Elt F) (V c (Pipeline.arrRef spec1 1))

/-- The proof data: the arrays at their entry contents, the inputs kept, the outputs computed from the point's inputs. -/
def dat (c : Dev nD) : Dat τ (Elt F) Unit ℕ (UR sig nD τ) ℕ cfg1 c where
  A w := V c (Pipeline.arrRef spec1 w)
  after w t := match w with
    | ⟨0, _⟩ => x8 V c t
    | ⟨1, _⟩ => aux V c t
    | ⟨2, _⟩ => hotBlk (grid1.coords t) (x8 V c t) (aux V c t)
    | ⟨3, _⟩ => scaledBlk (x8 V c t) (aux V c t)
  Φ _ := Pipeline.scopedRest spec1 c
  q _ := fullShare
  owed _ := 0

/-- What the body finds in the input's buffer: the block, with anything past the array's end; -/
theorem before_0 (c : Dev nD) (t : Fin cfg1.N) (d) :
    (dat V c).before (0 : Fin 4) t d = win1_0.fill (grid1.coords t) d (xblk V c t) := by
  unfold Dat.before; rw [if_pos (fetch1_0 t)]; rfl

/-- and in the scale and shift buffer: the rows. -/
theorem before_1 (c : Dev nD) (t : Fin cfg1.N) (d) : (dat V c).before (1 : Fin 4) t d = aux V c t :=
  ((dat V c).before_in_eq_fetched 1 rfl (fun _ => rfl) (fun _ _ _ => rfl) (fun _ => rfl) t d).trans rfl

/-- The windows of the arrays with a million columns are cut alike. -/
theorem moved_col : ∀ (t : Fin cfg1.N), win1_0.xsize (grid1.coords t) 0 = 4 :=
  (by decide +kernel : ∀ (t : Fin grid1.N), win1_0.xsize (grid1.coords t) 0 = 4)

/-- Filled blocks agree on the columns inside the array. -/
theorem fill_col (c : Dev nD) (t : Fin cfg1.N) (d d' : S4x131072.Idx → Elt F .f32) (g) (b : Fin 131072)
    (hb : b.val < win1_0.xsize (grid1.coords t) 1) (a : Fin 4) :
    win1_0.fill (grid1.coords t) d g (ix2 a b) = win1_0.fill (grid1.coords t) d' g (ix2 a b) := by
  have hm : win1_0.moved (grid1.coords t) (ix2 a b) = true := (win1_0.moved_iff _ _).mpr fun x => by
    fin_cases x
    · exact lt_of_lt_of_eq a.isLt (moved_col t).symm
    · exact hb
  unfold Window.fill; rw [dif_pos hm, dif_pos hm]

/-- An index of the moved part of a block, as a row and a column. -/
theorem cut_eq (t : Fin cfg1.N) (P Q : S4x131072.Idx → Elt F .f32)
    (h : ∀ (a : Fin 4) (b : Fin 131072), b.val < win1_0.xsize (grid1.coords t) 1 → P (ix2 a b) = Q (ix2 a b)) :
    win1_0.cut (grid1.coords t) P = win1_0.cut (grid1.coords t) Q := by
  funext j
  show P (win1_0.xinj (grid1.coords t) j) = Q (win1_0.xinj (grid1.coords t) j)
  have hb : (j 1 : ℕ) < win1_0.xsize (grid1.coords t) 1 := (j 1).isLt
  have e : (show S4x131072.Idx from win1_0.xinj (grid1.coords t) j)
      = ix2 (⟨(j 0 : ℕ), lt_of_lt_of_eq (j 0).isLt (moved_col t)⟩ : Fin 4)
          (⟨(j 1 : ℕ), lt_of_lt_of_le hb (win1_0.xsize_le (grid1.coords t) 1)⟩ : Fin 131072) := by
    funext x; fin_cases x <;> rfl
  have := h ⟨(j 0 : ℕ), lt_of_lt_of_eq (j 0).isLt (moved_col t)⟩ ⟨(j 1 : ℕ), lt_of_lt_of_le hb (win1_0.xsize_le (grid1.coords t) 1)⟩ hb
  rw [← e] at this
  exact this

/-- The library's body obligation. -/
theorem body_obligation (c : Dev nD) : BodyObligationLoose (dat V c) (defs₀ (F := F)) Variants.none () Set.univ := fun t => by
  rw [bigSep_W1, bigSep_W1]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩⟩
  rw [before_0 V c t d0, before_1 V c t d1]
  iapply (sound_main c Set.univ (grid1.coords t) (stage1_0 (cfg1.slots t 0)) (hstage1_0 ((cfg1.slots t 0).cast nbuf1_0))
    (stage1_1 (cfg1.slots t 1)) (hstage1_1 ((cfg1.slots t 1).cast nbuf1_1)) (stage1_2 (cfg1.slots t 2)) (hstage1_2 ((cfg1.slots t 2).cast nbuf1_2))
    (stage1_3 (cfg1.slots t 3)) (hstage1_3 ((cfg1.slots t 3).cast nbuf1_3)) _ _ _ _ _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win1_0.cut (grid1.coords t) (x8 V c t) = xblk V c t := win1_0.cut_fill _ _ _
  have h2 : win1_0.fill (grid1.coords t) (hotBlk (grid1.coords t) (win1_0.fill (grid1.coords t) d0 (xblk V c t)) (aux V c t))
      (win1_0.cut (grid1.coords t) (hotBlk (grid1.coords t) (x8 V c t) (aux V c t)))
      = hotBlk (grid1.coords t) (win1_0.fill (grid1.coords t) d0 (xblk V c t)) (aux V c t) := by
    rw [cut_eq t (hotBlk (grid1.coords t) (x8 V c t) (aux V c t)) (hotBlk (grid1.coords t) (win1_0.fill (grid1.coords t) d0 (xblk V c t)) (aux V c t))
      (fun a b hb => hot_congr _ _ _ _ b (fun a => fill_col c t _ _ _ b hb a) a)]
    exact win1_0.fill_cut _ _
  have h3 : win1_0.fill (grid1.coords t) (scaledBlk (win1_0.fill (grid1.coords t) d0 (xblk V c t)) (aux V c t))
      (win1_0.cut (grid1.coords t) (scaledBlk (x8 V c t) (aux V c t)))
      = scaledBlk (win1_0.fill (grid1.coords t) d0 (xblk V c t)) (aux V c t) := by
    rw [cut_eq t (scaledBlk (x8 V c t) (aux V c t)) (scaledBlk (win1_0.fill (grid1.coords t) d0 (xblk V c t)) (aux V c t))
      (fun a b hb => scaled_congr _ _ _ b (fun a => fill_col c t _ _ _ b hb a) a)]
    exact win1_0.fill_cut _ _
  isplitl [H0]
  · iexists d0
    change _ ⊢ owns (c : Thread nD τ) (stage1_0 (cfg1.slots t 0)) fullShare (win1_0.fill (grid1.coords t) d0 (win1_0.cut (grid1.coords t) (x8 V c t)))
    rw [hx]; try iexact H0
  isplitl [H1]
  · iexact H1
  isplitl [H2]
  · iexists hotBlk (grid1.coords t) (win1_0.fill (grid1.coords t) d0 (xblk V c t)) (aux V c t)
    change _ ⊢ owns (c : Thread nD τ) (stage1_2 (cfg1.slots t 2)) fullShare (win1_0.fill (grid1.coords t) (hotBlk (grid1.coords t) (win1_0.fill (grid1.coords t) d0 (xblk V c t)) (aux V c t)) (win1_0.cut (grid1.coords t) (hotBlk (grid1.coords t) (x8 V c t) (aux V c t))))
    rw [h2]; try iexact H2
  · iexists scaledBlk (win1_0.fill (grid1.coords t) d0 (xblk V c t)) (aux V c t)
    change _ ⊢ owns (c : Thread nD τ) (stage1_3 (cfg1.slots t 3)) fullShare (win1_0.fill (grid1.coords t) (scaledBlk (win1_0.fill (grid1.coords t) d0 (xblk V c t)) (aux V c t)) (win1_0.cut (grid1.coords t) (scaledBlk (x8 V c t) (aux V c t))))
    rw [h3]; try iexact H3

end Cert.KernelIdeal.MainRegion

end
-- ==== Proof.RunKernelIdeal.lean ====
/-
  The run of the program: the two pallas_calls as segments between the three stretches of host operations, from any memory
  with zero counters. Every final state has the arguments as launched, the two results at the contents computed from the
  pallas_calls' arrays, and every semaphore counter at zero.
-/
module

public import proofs.«01_k».proof.Proof.StatsRegionKernelIdeal
public import proofs.«01_k».proof.Proof.MainRegionKernelIdeal
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

section Segments

variable (W0 W1 : Dev nD → Valuation τ sig (Elt F))

/-- The proof data of the two pallas_calls, entered at any contents. -/
def pdats (p : Fin 2) (c : Dev nD) : Dat τ (Elt F) Unit ℕ (UR sig nD τ) ℕ (cfgs p) c :=
  match p with
  | ⟨0, _⟩ => StatsRegion.dat (fun c b => W0 c b) c
  | ⟨1, _⟩ => MainRegion.dat (fun c b => W1 c b) c

/-- The windows of a pallas_call have distinct arrays. -/
theorem inj0 : Function.Injective (Pipeline.arrRef cfg0.spec) := by decide
/-- The same of the second. -/
theorem inj1 : Function.Injective (Pipeline.arrRef cfg1.spec) := by decide

/-- Every staging cell's level is the same one, assigned on the TensorCores. -/
def lev : GSem nD τ sig → Finset Unit := fun g => if g.1.2 = .tc then {()} else ∅
/-- The level. -/
def lv : GSem nD τ sig → Unit → ℕ := fun _ _ => 0

/-- Nothing is owed, so the staging waits may run. -/
theorem cut (p : Fin 2) : Pipeline.LevelCut (pcfgs (F := F)) adm () lev lv p (fun _ : Dev nD => 0) (fun _ => 0) where
  hι _ _ _ := by simp [lev]
  hιb _ _ _ := le_refl _
  hD _ _ _ h := absurd h (lt_irrefl _)

/-- What a core holds beside its buffers throughout: it owes nothing. -/
def rest (c : Dev nD) : sProp 𝕄 :=
  iprop((∃ Wd, owes (c : Thread nD τ) (0 : CellTallies nD τ sig Unit) Wd) ∗ emp ∗ emp)

/-- The first pallas_call's arrays are unscoped. -/
theorem sub0 : Pipeline.arrRefs (τ := τ) ((pcfgs (F := F)) 0).spec ⊆ Pipeline.ucRefs τ sig :=
  Pipeline.arrRefs_sub_ucRefs spec0 (by decide)
/-- So are the second's. -/
theorem sub1 : Pipeline.arrRefs (τ := τ) ((pcfgs (F := F)) 1).spec ⊆ Pipeline.ucRefs τ sig :=
  Pipeline.arrRefs_sub_ucRefs spec1 (by decide)

/-- Nothing beside `P` may be dropped; -/
theorem drop_emp (P : sProp 𝕄) : iprop(P ∗ emp) ⊢ P := by
  iintro ⟨H, -⟩
  iexact H
/-- and may be added. -/
theorem add_emp (P : sProp 𝕄) : P ⊢ iprop(P ∗ emp) := by
  iintro H
  isplitl [H]; · iexact H
  iempintro

/-- The first pallas_call's scoped buffers that no window stages. -/
abbrev scoped0 (c : Dev nD) : sProp 𝕄 :=
  Pipeline.scopedRest (Ix := Unit) (Name := ℕ) (U := UR sig nD τ) (Lvl := ℕ) (Val := Elt F) (τ := τ) (Pipeline.pin (pcfgs (F := F)) adm 0).spec c

/-- They are its invariant at every point. -/
theorem inv0 (c : Dev nD) (t) : (pdats W0 W1 0 c).Φ t = scoped0 c :=
  (show (pdats W0 W1 0 c).Φ t = Pipeline.scopedRest (Ix := Unit) (Name := ℕ) (U := UR sig nD τ) (Lvl := ℕ) (Val := Elt F) (τ := τ) spec0 c from rfl).trans
    (show _ = scoped0 c from rfl)

/-- They make the invariant at its first point; -/
theorem enter0 (c : Dev nD) : iprop(scoped0 c ∗ emp) ⊢ (pdats W0 W1 0 c).Φ 0 :=
  (drop_emp _).trans (Entails.of_eq (inv0 W0 W1 c 0).symm)
/-- and are what it leaves at its last. -/
theorem leave0 (c : Dev nD) : (pdats W0 W1 0 c).Φ (Fin.last _) ⊢ iprop(scoped0 c ∗ emp) :=
  (Entails.of_eq (inv0 W0 W1 c _)).trans (add_emp _)

/-- The body obligation of the first. -/
theorem body0 (c : Dev nD) : Pipeline.BodyObligationLoose (pdats W0 W1 0 c) defs₀ Variants.none () Set.univ :=
  StatsRegion.body_obligation (fun c b => W0 c b) c
/-- It holds its arrays at the full share, -/
theorem share0 (c : Dev nD) (w) : (pdats W0 W1 0 c).share w = fullShare :=
  (pdats W0 W1 0 c).share_full (fun _ => rfl) w
/-- and enters them at the given contents. -/
theorem entry0 (c : Dev nD) (w) : (pdats W0 W1 0 c).arrAt w 0 = W0 c (Proc.devRef .tc (Pipeline.arrRef (Pipeline.pin (pcfgs (F := F)) adm 0).spec w)) :=
  rfl

/-- The first pallas_call as a segment. -/
def reg0 : RegionSeg (pcfgs (F := F)) adm (pdats W0 W1) () defs₀ Variants.none lev lv 0 :=
  RegionSeg.ofHeldIn (pcfgs (F := F)) adm (pdats W0 W1) () defs₀ Variants.none lev lv 0 (fun _ => 0) (Pipeline.ucRefs τ sig)
    (fun _ => iprop(emp)) (fun _ => iprop(emp)) launch0.toP rfl (body0 W0 W1)
    (fun _ _ => rfl) (fun _ => rfl) (share0 W0 W1) (enter0 W0 W1) (leave0 W0 W1)
    (fun _ => 0) (cut 0) (fun _ => iprop(emp)) W0 (entry0 W0 W1)

/-- The second pallas_call's scoped buffers that no window stages. -/
abbrev scoped1 (c : Dev nD) : sProp 𝕄 :=
  Pipeline.scopedRest (Ix := Unit) (Name := ℕ) (U := UR sig nD τ) (Lvl := ℕ) (Val := Elt F) (τ := τ) (Pipeline.pin (pcfgs (F := F)) adm 1).spec c

/-- They are its invariant at every point. -/
theorem inv1 (c : Dev nD) (t) : (pdats W0 W1 1 c).Φ t = scoped1 c :=
  (show (pdats W0 W1 1 c).Φ t = Pipeline.scopedRest (Ix := Unit) (Name := ℕ) (U := UR sig nD τ) (Lvl := ℕ) (Val := Elt F) (τ := τ) spec1 c from rfl).trans
    (show _ = scoped1 c from rfl)

/-- They make the invariant at its first point; -/
theorem enter1 (c : Dev nD) : iprop(scoped1 c ∗ emp) ⊢ (pdats W0 W1 1 c).Φ 0 :=
  (drop_emp _).trans (Entails.of_eq (inv1 W0 W1 c 0).symm)
/-- and are what it leaves at its last. -/
theorem leave1 (c : Dev nD) : (pdats W0 W1 1 c).Φ (Fin.last _) ⊢ iprop(scoped1 c ∗ emp) :=
  (Entails.of_eq (inv1 W0 W1 c _)).trans (add_emp _)

/-- The body obligation of the second. -/
theorem body1 (c : Dev nD) : Pipeline.BodyObligationLoose (pdats W0 W1 1 c) defs₀ Variants.none () Set.univ :=
  MainRegion.body_obligation (fun c b => W1 c b) c
/-- It holds its arrays at the full share, -/
theorem share1 (c : Dev nD) (w) : (pdats W0 W1 1 c).share w = fullShare :=
  (pdats W0 W1 1 c).share_full (fun _ => rfl) w
/-- and enters them at the given contents. -/
theorem entry1 (c : Dev nD) (w) : (pdats W0 W1 1 c).arrAt w 0 = W1 c (Proc.devRef .tc (Pipeline.arrRef (Pipeline.pin (pcfgs (F := F)) adm 1).spec w)) :=
  rfl

/-- The second. -/
def reg1 : RegionSeg (pcfgs (F := F)) adm (pdats W0 W1) () defs₀ Variants.none lev lv 1 :=
  RegionSeg.ofHeldIn (pcfgs (F := F)) adm (pdats W0 W1) () defs₀ Variants.none lev lv 1 (fun _ => 0) (Pipeline.ucRefs τ sig)
    (fun _ => iprop(emp)) (fun _ => iprop(emp)) launch1.toP rfl (body1 W0 W1)
    (fun _ _ => rfl) (fun _ => rfl) (share1 W0 W1) (enter1 W0 W1) (leave1 W0 W1)
    (fun _ => 0) (cut 1) (fun _ => iprop(emp)) W1 (entry1 W0 W1)

/-- The first segment's entry; -/
theorem pre0 (c : Dev nD) :
    iprop(StableHlo.held (c : Thread nD τ) (Pipeline.ucRefs τ sig) (W0 c) ∗ rest c) ⊢ (reg0 W0 W1).pre c := by
  have h := RegionSeg.ofHeldIn_pre (pcs := pcfgs (F := F)) (a := adm) (pdats := pdats W0 W1) (ι := ()) (defs₀ := defs₀) (𝒱₀ := Variants.none)
    (L := lev) (lv := lv) (p := 0) (D := fun _ => 0) (S := Pipeline.ucRefs τ sig) (X := fun _ => iprop(emp)) (Y := fun _ => iprop(emp))
    (kit := launch0.toP) (hK := rfl) (hbody := body0 W0 W1) (howed := fun _ _ => rfl) (hrec := fun _ => rfl) (hshare := share0 W0 W1)
    (hin := enter0 W0 W1) (hout := leave0 W0 W1) (b := fun _ => 0) (hcut := cut 0) (R := fun _ => iprop(emp)) (W := W0) (hW := entry0 W0 W1) sub0 c
  exact h
/-- its exit; -/
theorem post0 (c : Dev nD) :
    (reg0 W0 W1).post c ⊢ iprop(StableHlo.held (c : Thread nD τ) (Pipeline.ucRefs τ sig)
      (Pipeline.afterRegion (pdats W0 W1 0 c) (W0 c)) ∗ rest c) := by
  have h := RegionSeg.ofHeldIn_post (pcs := pcfgs (F := F)) (a := adm) (pdats := pdats W0 W1) (ι := ()) (defs₀ := defs₀) (𝒱₀ := Variants.none)
    (L := lev) (lv := lv) (p := 0) (D := fun _ => 0) (S := Pipeline.ucRefs τ sig) (X := fun _ => iprop(emp)) (Y := fun _ => iprop(emp))
    (kit := launch0.toP) (hK := rfl) (hbody := body0 W0 W1) (howed := fun _ _ => rfl) (hrec := fun _ => rfl) (hshare := share0 W0 W1)
    (hin := enter0 W0 W1) (hout := leave0 W0 W1) (b := fun _ => 0) (hcut := cut 0) (R := fun _ => iprop(emp)) (W := W0) (hW := entry0 W0 W1) sub0 c
  exact h
/-- the second segment's entry; -/
theorem pre1 (c : Dev nD) :
    iprop(StableHlo.held (c : Thread nD τ) (Pipeline.ucRefs τ sig) (W1 c) ∗ rest c) ⊢ (reg1 W0 W1).pre c := by
  have h := RegionSeg.ofHeldIn_pre (pcs := pcfgs (F := F)) (a := adm) (pdats := pdats W0 W1) (ι := ()) (defs₀ := defs₀) (𝒱₀ := Variants.none)
    (L := lev) (lv := lv) (p := 1) (D := fun _ => 0) (S := Pipeline.ucRefs τ sig) (X := fun _ => iprop(emp)) (Y := fun _ => iprop(emp))
    (kit := launch1.toP) (hK := rfl) (hbody := body1 W0 W1) (howed := fun _ _ => rfl) (hrec := fun _ => rfl) (hshare := share1 W0 W1)
    (hin := enter1 W0 W1) (hout := leave1 W0 W1) (b := fun _ => 0) (hcut := cut 1) (R := fun _ => iprop(emp)) (W := W1) (hW := entry1 W0 W1) sub1 c
  exact h
/-- its exit. -/
theorem post1 (c : Dev nD) :
    (reg1 W0 W1).post c ⊢ iprop(StableHlo.held (c : Thread nD τ) (Pipeline.ucRefs τ sig)
      (Pipeline.afterRegion (pdats W0 W1 1 c) (W1 c)) ∗ rest c) := by
  have h := RegionSeg.ofHeldIn_post (pcs := pcfgs (F := F)) (a := adm) (pdats := pdats W0 W1) (ι := ()) (defs₀ := defs₀) (𝒱₀ := Variants.none)
    (L := lev) (lv := lv) (p := 1) (D := fun _ => 0) (S := Pipeline.ucRefs τ sig) (X := fun _ => iprop(emp)) (Y := fun _ => iprop(emp))
    (kit := launch1.toP) (hK := rfl) (hbody := body1 W0 W1) (howed := fun _ _ => rfl) (hrec := fun _ => rfl) (hshare := share1 W0 W1)
    (hin := enter1 W0 W1) (hout := leave1 W0 W1) (b := fun _ => 0) (hcut := cut 1) (R := fun _ => iprop(emp)) (W := W1) (hW := entry1 W0 W1) sub1 c
  exact h

/-- What the first pallas_call leaves, by its own proof data; -/
theorem left0 (c : Dev nD) (V : Valuation τ sig (Elt F)) : Pipeline.afterRegion (pdats W0 W1 0 c) V =
    Pipeline.afterRegion (StatsRegion.dat (fun c b => W0 c b) c) V := rfl
/-- and the second. -/
theorem left1 (c : Dev nD) (V : Valuation τ sig (Elt F)) : Pipeline.afterRegion (pdats W0 W1 1 c) V =
    Pipeline.afterRegion (MainRegion.dat (fun c b => W1 c b) c) V := rfl

/-- What the first pallas_call changes: its two outputs' arrays. -/
theorem afterRegion0 (c : Dev nD) (r : Ref sig .tc) (h0 : r ≠ main_v1_0) (h1 : r ≠ main_v1_1) :
    Pipeline.afterRegion (StatsRegion.dat (fun c b => W0 c b) c) (W0 c) (Proc.devRef .tc r) = W0 c (Proc.devRef .tc r) := by
  refine Pipeline.afterRegion_keeps _ (W0 c) inj0 (fun _ => rfl) r fun w hw => ?_
  subst hw
  revert h0 h1; revert w; decide

/-- What the second changes: its two outputs' arrays. -/
theorem afterRegion1 (c : Dev nD) (r : Ref sig .tc) (h0 : r ≠ main_v23_0) (h1 : r ≠ main_v23_1) :
    Pipeline.afterRegion (MainRegion.dat (fun c b => W1 c b) c) (W1 c) (Proc.devRef .tc r) = W1 c (Proc.devRef .tc r) := by
  refine Pipeline.afterRegion_keeps _ (W1 c) inj1 (fun _ => rfl) r fun w hw => ?_
  subst hw
  revert h0 h1; revert w; decide

end Segments

/-- What the first pallas_call leaves. -/
def outs0 : Outs (F := F) := fun _ r c => Pipeline.afterRegion (StatsRegion.dat (fun c b => V1 m c b) c) (V1 m c) r

/-- What the two pallas_calls leave: the first at item 2, the second after it. -/
def outs : Outs (F := F) := fun J r c =>
  if J = 2 then outs0 m J r c else Pipeline.afterRegion (MainRegion.dat (fun c b => V3 m (outs0 m) c b) c) (V3 m (outs0 m) c) r

/-- The contents after the first pallas_call depend on what it leaves only. -/
theorem V2_outs (c : Dev nD) : V2 m (outs m) c = V2 m (outs0 m) c := rfl

/-- And so do those after the second host stretch. -/
theorem V3_outs (c : Dev nD) : V3 m (outs m) c = V3 m (outs0 m) c := by
  unfold V3; rw [V2_outs]

/-- The sums' array after the first pallas_call; -/
theorem outs_sum (c : Dev nD) : outs m 2 main_v1_0 c = (StatsRegion.dat (fun c b => V1 m c b) c).arrAt 1 cfg0.N := by
  simp only [outs, if_true, outs0]
  exact Pipeline.afterRegion_arr (StatsRegion.dat (fun c b => V1 m c b) c) (V1 m c) inj0 1
/-- the sums of squares'; -/
theorem outs_sq (c : Dev nD) : outs m 2 main_v1_1 c = (StatsRegion.dat (fun c b => V1 m c b) c).arrAt 2 cfg0.N := by
  simp only [outs, if_true, outs0]
  exact Pipeline.afterRegion_arr (StatsRegion.dat (fun c b => V1 m c b) c) (V1 m c) inj0 2
/-- the one-hot result's after the second; -/
theorem outs_hot (c : Dev nD) : outs m 4 main_v23_0 c = (MainRegion.dat (fun c b => V3 m (outs0 m) c b) c).arrAt 2 cfg1.N := by
  simp only [outs, show ¬ (4 = 2) by decide, if_false]
  exact Pipeline.afterRegion_arr (MainRegion.dat (fun c b => V3 m (outs0 m) c b) c) (V3 m (outs0 m) c) inj1 2
/-- and the scaled result's. -/
theorem outs_scaled (c : Dev nD) : outs m 4 main_v23_1 c = (MainRegion.dat (fun c b => V3 m (outs0 m) c b) c).arrAt 3 cfg1.N := by
  simp only [outs, show ¬ (4 = 2) by decide, if_false]
  exact Pipeline.afterRegion_arr (MainRegion.dat (fun c b => V3 m (outs0 m) c b) c) (V3 m (outs0 m) c) inj1 3

/-- A device buffer of the unscoped TensorCore references is one of them. -/
theorem of_mem_ucRefs {b : DevRef τ sig} (hb : b ∈ Pipeline.ucRefs τ sig) : ∃ r : Ref sig .tc, b = Proc.devRef .tc r := by
  obtain ⟨r, -, rfl⟩ := Finset.mem_map.mp (Finset.mem_filter.mp hb).1
  exact ⟨r, rfl⟩

/-- What the first pallas_call leaves is the generated valuation after it. -/
theorem after0 (c : Dev nD) : ∀ b ∈ Pipeline.ucRefs τ sig,
    Pipeline.afterRegion (StatsRegion.dat (fun c b => V1 m c b) c) (V1 m c) b = V2 m (outs m) c b := by
  intro b hb
  obtain ⟨r, rfl⟩ := of_mem_ucRefs hb
  by_cases h1 : r = main_v1_1
  · subst h1
    simp only [V2, Function.update_self]
    rfl
  by_cases h0 : r = main_v1_0
  · subst h0
    refine Eq.symm ((Function.update_of_ne (StableHlo.devRef_ne_of_ne (show main_v1_0 ≠ main_v1_1 by decide)) _ _).trans ?_)
    exact Function.update_self _ _ _
  rw [V2_of m (outs m) c r (by simp [h0, h1])]
  exact afterRegion0 (V1 m) c r h0 h1

/-- What the second leaves is the generated valuation after it. -/
theorem after1 (c : Dev nD) : ∀ b ∈ Pipeline.ucRefs τ sig,
    Pipeline.afterRegion (MainRegion.dat (fun c b => V3 m (outs0 m) c b) c) (V3 m (outs0 m) c) b = V4 m (outs m) c b := by
  intro b hb
  obtain ⟨r, rfl⟩ := of_mem_ucRefs hb
  by_cases h1 : r = main_v23_1
  · subst h1
    simp only [V4, Function.update_self]
    rfl
  by_cases h0 : r = main_v23_0
  · subst h0
    refine Eq.symm ((Function.update_of_ne (StableHlo.devRef_ne_of_ne (show main_v23_0 ≠ main_v23_1 by decide)) _ _).trans ?_)
    exact Function.update_self _ _ _
  rw [V4_of m (outs m) c r (by simp [h0, h1]), V3_outs]
  exact afterRegion1 (V3 m (outs0 m)) c r h0 h1

set_option backward.isDefEq.respectTransparency.types false in
/-- The run: the arguments as launched, the results at the last valuation, every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v24) = V5 m (outs m) c main_v24
      ∧ r.2.mem ((c.tc : Thread nD τ).loc main_v25) = V5 m (outs m) c main_v25)
      ∧ r.2.sem = fun _ => 0) := by
  refine Pipeline.θ_run_regions_kit_dev_sems (pcfgs (F := F)) adm (pdats (V1 m) (V3 m (outs0 m))) () cellOf_inj emb₁ defs₀ Variants.none lev lv m ρ main
    (segs m (outs m) Variants.none lev lv (fun _ => rest) () (pdats (V1 m) (V3 m (outs0 m))) (reg0 (V1 m) (V3 m (outs0 m))) (reg1 (V1 m) (V3 m (outs0 m))))
    (fun c Q => by
      rewrite [main_chain c, Seg.run_eq_chain,
        show (segs m (outs m) Variants.none lev lv (fun _ => rest) () (pdats (V1 m) (V3 m (outs0 m))) (reg0 (V1 m) (V3 m (outs0 m))) (reg1 (V1 m) (V3 m (outs0 m))) c).map Seg.prog = [
          StableHlo.seq hostOps0, Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [segs, Seg.pipes_host, Seg.pipes_region, Seg.pipes_nil]; decide) (0 : Dev nD → CellTallies nD τ sig Unit)
    (fun g hg => by simp [lev, hg]) (fun _ => iprop(emp))
    (initOf (Pipeline.cells cfgs cellOf_inj) (Pipeline.launchToks cfgs cellOf_inj))
    (by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, pre0 (V1 m) (V3 m (outs0 m)) c, ?_, ?_, ?_, ?_⟩)
    (hinit := Pipeline.initEach lev lv fun c => ?_)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_v24) = V5 m (outs m) c main_v24
      ∧ s.mem ((c.tc : Thread nD τ).loc main_v25) = V5 m (outs m) c main_v25)
    (hfin := fun c s' => ?_) (hQ := fun _ h hz => ⟨h, funext fun g => hz g (.inr (regions_no_unscoped g.2))⟩)
  · -- the first pallas_call leaves the contents the second host stretch starts from
    have h := post0 (V1 m) (V3 m (outs0 m)) c
    rw [left0, StableHlo.held_congr (c : Thread nD τ) (after0 m c)] at h
    exact h
  · -- that stretch leaves the contents the second pallas_call starts from
    have h := pre1 (V1 m) (V3 m (outs0 m)) c
    rw [← V3_outs m c] at h
    exact h
  · -- the second pallas_call leaves the contents the third stretch starts from
    have h := post1 (V1 m) (V3 m (outs0 m)) c
    rw [left1, StableHlo.held_congr (c : Thread nD τ) (after1 m c)] at h
    exact h
  · -- the end owes nothing
    refine sep_mono .rfl ?_
    unfold rest
    iintro ⟨H, -, -⟩
    iexact H
  · -- the launch: the unscoped buffers held, nothing owed
    rw [show unscopedBufs c (fun b => m ((c.tc : Thread nD τ).loc b)) = StableHlo.held (c : Thread nD τ) (Pipeline.ucRefs τ sig) (V0 m c) from
      Pipeline.unscopedBufs_held c (V0 m c)]
    unfold rest
    iintro ⟨⟨Hh, -, HO, -, -, -⟩, -⟩
    imodintro
    isplitl [Hh]; · iexact Hh
    isplitl [HO]; · iexists ∅; iexact HO
    isplitr <;> iempintro
  · -- the end: the buffers read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        h (Proc.devRef .tc main_v24) (Finset.mem_filter.mpr ⟨StableHlo.devRef_mem_tcRefs main_v24, by decide⟩),
        h (Proc.devRef .tc main_v25) (Finset.mem_filter.mpr ⟨StableHlo.devRef_mem_tcRefs main_v25, by decide⟩)⟩
    · iexact HSI

end Cert.KernelIdeal.Run

end
-- ==== Proof.KernelBlocks.lean ====
/-
  The blocks of the two pallas_calls in closed form: the input blocks as columns of the arrays, the payloads of the first
  body at an entry, and the output arrays of the second from what each point writes.
-/
module

public import proofs.«01_k».proof.Proof.RunKernelIdeal
public import Idealize.ShloMosaic.Lib.Pointwise
public import Idealize.ShloMosaic.Lib.Pipeline.ValueKit

@[expose] public section

set_option maxHeartbeats 400000
set_option maxRecDepth 20000

noncomputable section

namespace Cert.KernelIdeal.Value

open Idealize.ShloMosaic Idealize.ShloMosaic.TcCoe Cert.KernelIdeal Cert.KernelIdeal.Gen
open Idealize.ShloMosaic.Pipeline (Dat Cfg Window)

section
open Cert.KernelIdeal.StatsBody Cert.KernelIdeal.StatsRegion

/-- The blocks of the first call walk the columns. -/
theorem idx0 : ∀ t : Fin cfg0.N, win0_0.index t = ![0, t.val] := (by decide +kernel : ∀ t : Fin grid0.N, win0_0.index t = ![0, t.val])

/-- The input block of the first call at a column inside the array. -/
theorem x8_at {F : FTy → Type} [FloatOps F] (V : (c : Dev nD) → (b : Ref sig .tc) → Buf (Elt F) ((c : Thread nD τ).loc b)) (c : Dev nD) (t : Fin cfg0.N) (a : Fin 4) (b : Fin 131072)
    (h : t.val * 131072 + b.val < 1000000) :
    StatsRegion.x8 V c t (ix2 a b) = (show S4x1000000.Idx → Elt F .f32 from V c (Pipeline.arrRef spec0 0)) (ix2 a ⟨t.val * 131072 + b.val, h⟩) := by
  have hx : win0_0.xsize (grid0.coords t) = ![4, min 131072 (1000000 - t.val * 131072)] :=
    (by decide +kernel : ∀ t : Fin grid0.N, win0_0.xsize (grid0.coords t) = ![4, min 131072 (1000000 - t.val * 131072)]) t
  have hm : win0_0.moved (grid0.coords t) (ix2 a b) = true := (win0_0.moved_iff _ _).mpr fun x => by
    rw [hx]
    fin_cases x
    · exact a.isLt
    · have := b.isLt
      show b.val < min 131072 (1000000 - t.val * 131072)
      omega
  unfold StatsRegion.x8 Window.fill
  rw [dif_pos hm]
  unfold StatsRegion.xblk
  blk_point [idx0 t]
end

section
open Cert.KernelIdeal.StatsBody Cert.KernelIdeal.StatsRegion

/-- A column sum added. -/
theorem pay4_at (X : Vec Ideal S4x131072 .f32) (P : Vec Ideal S4x128 .f32) (a : Fin 4) (l : Fin 128) :
    k0_pay4 X P (ix2 a l) = (P (ix2 a l) + ∑ k : Fin 1024, X (ix2 a ⟨k.val * 128 + l.val, by omega⟩) : EReal) := by
  pointwise [k0_pay4, k0_pay3]
/-- A column sum of squares added. -/
theorem pay5_at (X : Vec Ideal S4x131072 .f32) (P : Vec Ideal S4x128 .f32) (a : Fin 4) (l : Fin 128) :
    k0_pay5 X P (ix2 a l) = (P (ix2 a l) + ∑ k : Fin 1024, (show EReal from X (ix2 a ⟨k.val * 128 + l.val, by omega⟩)) * X (ix2 a ⟨k.val * 128 + l.val, by omega⟩) : EReal) := by
  pointwise [k0_pay5, k0_pay3]
/-- The masked block of the last point. -/
theorem pay6_at (i : grid0.Coords) (hi : (i 0 : ℕ) = 7) (X : Vec Ideal S4x131072 .f32) (a : Fin 4) (k : Fin 1024) (l : Fin 128) :
    k0_pay6 i X (ix3 a k l) = (if k.val * 128 + l.val < 82496 then X (ix2 a ⟨k.val * 128 + l.val, by omega⟩) else (0 : EReal)) := by
  pointwise [k0_pay6, k0_pay3, hi]
  rw [mask_last]
  by_cases hc : k.val * 128 + l.val < 82496
  · rw [if_pos hc, if_pos hc]; rfl
  · rw [if_neg hc, if_neg hc]; rfl
/-- The masked column sum added. -/
theorem pay7_at (i : grid0.Coords) (X : Vec Ideal S4x131072 .f32) (P : Vec Ideal S4x128 .f32) (a : Fin 4) (l : Fin 128) :
    k0_pay7 i X P (ix2 a l) = (P (ix2 a l) + ∑ k : Fin 1024, k0_pay6 i X (ix3 a k l) : EReal) := by
  unfold k0_pay7
  generalize k0_pay6 i X = M
  pointwise []
/-- The masked column sum of squares added. -/
theorem pay8_at (i : grid0.Coords) (X : Vec Ideal S4x131072 .f32) (P : Vec Ideal S4x128 .f32) (a : Fin 4) (l : Fin 128) :
    k0_pay8 i X P (ix2 a l) = (P (ix2 a l) + ∑ k : Fin 1024, (show EReal from k0_pay6 i X (ix3 a k l)) * k0_pay6 i X (ix3 a k l) : EReal) := by
  unfold k0_pay8
  generalize k0_pay6 i X = M
  pointwise []
/-- The sums start at zero. -/
theorem pay1_at (y : S8x128.Idx) : k0_pay1 (F := Ideal) y = (0 : EReal) := by pointwise [k0_pay1]
/-- The sums of squares start at zero. -/
theorem pay2_at (y : S8x128.Idx) : k0_pay2 (F := Ideal) y = (0 : EReal) := by pointwise [k0_pay2]
/-- The first four rows at an entry. -/
theorem top_at {F : FTy → Type} [FloatOps F] (A : S8x128.Idx → Elt F .f32) (a : Fin 4) (l : Fin 128) :
    top A (ix2 a l) = A (ix2 (⟨a.val, by omega⟩ : Fin 8) l) := by
  show A (r4.emb (ix2 a l)) = _
  refine congrArg A ?_
  funext x
  fin_cases x <;> exact Fin.ext (by simp [r4, ix2])
/-- The first four rows just replaced. -/
theorem top_upd {F : FTy → Type} [FloatOps F] (A : S8x128.Idx → Elt F .f32) (P : S4x128.Idx → Elt F .f32) (a : Fin 4) (l : Fin 128) :
    top (upd A P) (ix2 a l) = P (ix2 a l) := by
  rw [top_at]
  unfold upd
  rw [dif_pos (show (ix2 (⟨a.val, by omega⟩ : Fin 8) l 0 : ℕ) < 4 from a.isLt)]
  rfl
end

section
open Cert.KernelIdeal.MainBody Cert.KernelIdeal.MainRegion

variable {F : FTy → Type} [FloatOps F] (V : (c : Dev nD) → (b : Ref sig .tc) → Buf (Elt F) ((c : Thread nD τ).loc b))

/-- The blocks of the second call walk the columns. -/
theorem idx1 : ∀ t : Fin cfg1.N, win1_0.index t = ![0, t.val] ∧ win1_1.index t = ![0, 0] ∧ win1_2.index t = ![0, t.val] ∧ win1_3.index t = ![0, t.val] ∧ ((grid1.coords t) 0 : ℕ) = t.val := (by decide +kernel : ∀ t : Fin grid1.N, win1_0.index t = ![0, t.val] ∧ win1_1.index t = ![0, 0] ∧ win1_2.index t = ![0, t.val] ∧ win1_3.index t = ![0, t.val] ∧ ((grid1.coords t) 0 : ℕ) = t.val)

/-- The input block of the second call at a column inside the array. -/
theorem y8_at (c : Dev nD) (t : Fin cfg1.N) (a : Fin 4) (b : Fin 131072)
    (h : t.val * 131072 + b.val < 1000000) :
    MainRegion.x8 V c t (ix2 a b) = (show S4x1000000.Idx → Elt F .f32 from V c (Pipeline.arrRef spec1 0)) (ix2 a ⟨t.val * 131072 + b.val, h⟩) := by
  have hx : win1_0.xsize (grid1.coords t) = ![4, min 131072 (1000000 - t.val * 131072)] :=
    (by decide +kernel : ∀ t : Fin grid1.N, win1_0.xsize (grid1.coords t) = ![4, min 131072 (1000000 - t.val * 131072)]) t
  have hm : win1_0.moved (grid1.coords t) (ix2 a b) = true := (win1_0.moved_iff _ _).mpr fun x => by
    rw [hx]
    fin_cases x
    · exact a.isLt
    · have := b.isLt
      show b.val < min 131072 (1000000 - t.val * 131072)
      omega
  unfold MainRegion.x8 Window.fill
  rw [dif_pos hm]
  unfold MainRegion.xblk
  blk_point [(idx1 t).1]

/-- The scale and shift rows, whole. -/
theorem aux_at (c : Dev nD) (t : Fin cfg1.N) : MainRegion.aux V c t = V c (Pipeline.arrRef spec1 1) := by
  funext j
  unfold MainRegion.aux
  blk_point [(idx1 t).2.1]

/-- The columns a point writes lie inside the array. -/
theorem xs1 : ∀ t : Fin cfg1.N, (win1_2.xsize (grid1.coords t) = ![4, min 131072 (1000000 - t.val * 131072)] ∧ win1_3.xsize (grid1.coords t) = ![4, min 131072 (1000000 - t.val * 131072)]) ∧ t.val < 8 :=
  (by decide +kernel : ∀ t : Fin grid1.N, (win1_2.xsize (grid1.coords t) = ![4, min 131072 (1000000 - t.val * 131072)] ∧ win1_3.xsize (grid1.coords t) = ![4, min 131072 (1000000 - t.val * 131072)]) ∧ t.val < 8)

/-- The first output array, from what every point writes. -/
theorem hot_arr (c : Dev nD) (G : S4x1000000.Idx → Elt F .f32)
    (h : ∀ (t : Fin cfg1.N) (a : Fin 4) (b : Fin 131072) (hb : t.val * 131072 + b.val < 1000000),
      hotBlk (grid1.coords t) (x8 V c t) (aux V c t) (ix2 a b) = G (ix2 a ⟨t.val * 131072 + b.val, hb⟩)) :
    (dat V c).arrAt 2 cfg1.N = G := by
  refine (dat V c).arrAt_eq_of_covers 2 G (by decide +kernel) fun t _ y => ?_
  blk_simp [idx1 t]
  have ht := (xs1 t).2
  have hs := (xs1 t).1.1
  have y0 : (y 0 : ℕ) < 4 := lt_of_lt_of_eq (y 0).isLt (congrFun hs 0)
  have y1 : (y 1 : ℕ) < min 131072 (1000000 - t.val * 131072) := lt_of_lt_of_eq (y 1).isLt (congrFun hs 1)
  have e : (show S4x131072.Idx from (cfg1.win 2).xinj (cfg1.grid.coords t) y) = ix2 (⟨(y 0 : ℕ), y0⟩ : Fin 4) (⟨(y 1 : ℕ), by omega⟩ : Fin 131072) := by
    funext x; fin_cases x <;> rfl
  refine Eq.trans (b := hotBlk (grid1.coords t) (x8 V c t) (aux V c t) (ix2 (⟨(y 0 : ℕ), y0⟩ : Fin 4) (⟨(y 1 : ℕ), by omega⟩ : Fin 131072))) (congrArg (hotBlk (grid1.coords t) (x8 V c t) (aux V c t)) e) ?_
  rw [h t _ _ (by show t.val * 131072 + (y 1 : ℕ) < 1000000; omega)]
  blk_ext [idx1 t]

/-- The second output array, from what every point writes. -/
theorem scaled_arr (c : Dev nD) (G : S4x1000000.Idx → Elt F .f32)
    (h : ∀ (t : Fin cfg1.N) (a : Fin 4) (b : Fin 131072) (hb : t.val * 131072 + b.val < 1000000),
      scaledBlk (x8 V c t) (aux V c t) (ix2 a b) = G (ix2 a ⟨t.val * 131072 + b.val, hb⟩)) :
    (dat V c).arrAt 3 cfg1.N = G := by
  refine (dat V c).arrAt_eq_of_covers 3 G (by decide +kernel) fun t _ y => ?_
  blk_simp [idx1 t]
  have ht := (xs1 t).2
  have hs := (xs1 t).1.2
  have y0 : (y 0 : ℕ) < 4 := lt_of_lt_of_eq (y 0).isLt (congrFun hs 0)
  have y1 : (y 1 : ℕ) < min 131072 (1000000 - t.val * 131072) := lt_of_lt_of_eq (y 1).isLt (congrFun hs 1)
  have e : (show S4x131072.Idx from (cfg1.win 3).xinj (cfg1.grid.coords t) y) = ix2 (⟨(y 0 : ℕ), y0⟩ : Fin 4) (⟨(y 1 : ℕ), by omega⟩ : Fin 131072) := by
    funext x; fin_cases x <;> rfl
  refine Eq.trans (b := scaledBlk (x8 V c t) (aux V c t) (ix2 (⟨(y 0 : ℕ), y0⟩ : Fin 4) (⟨(y 1 : ℕ), by omega⟩ : Fin 131072))) (congrArg (scaledBlk (x8 V c t) (aux V c t)) e) ?_
  rw [h t _ _ (by show t.val * 131072 + (y 1 : ℕ) < 1000000; omega)]
  blk_ext [idx1 t]
end

end Cert.KernelIdeal.Value
end
-- ==== Proof.KernelSums.lean ====
/-
  The first pallas_call's two arrays as sums over all rows, and the host operations around the calls at an entry.
-/
module

public import proofs.«01_k».proof.Proof.KernelBlocks
public import proofs.«01_k».proof.Proof.Arith
public import Idealize.ShloMosaic.Lib.Pointwise
public import Idealize.ShloMosaic.Lib.Pipeline.ValueKit

@[expose] public section

set_option maxHeartbeats 400000
set_option maxRecDepth 20000

noncomputable section

namespace Cert.KernelIdeal.Value

open Idealize.ShloMosaic Idealize.ShloMosaic.TcCoe Cert.KernelIdeal Cert.KernelIdeal.Gen
open Idealize.ShloMosaic.Pipeline (Dat Cfg Window)

section
open Cert.Arith
variable {F : FTy → Type} [FloatOps F]

/-- The rows the host makes of the sums and the sums of squares: four of scales, four of shifts. -/
def auxOf (S Q : FVec F S8x128 .f32) (g b : FVec F S4 .f32) : FVec F S8x128 .f32 :=
  let mu : FVec F S4 .f32 := Host.divf (Host.reduceAdd (extractStridedSlice S4x128 ![0, 0] S slices_S8x128_S4x128_0_0)
    (constant S_ .f32 0x00000000#32) reducesTo_S4x128_S4_d1 h_S_) (broadcastInDim S4 ![] bcast_S_S4 (constant S_ .f32 0x49742400#32))
  let ms : FVec F S4 .f32 := Host.divf (Host.reduceAdd (extractStridedSlice S4x128 ![0, 0] Q slices_S8x128_S4x128_0_0)
    (constant S_ .f32 0x00000000#32) reducesTo_S4x128_S4_d1 h_S_) (broadcastInDim S4 ![] bcast_S_S4 (constant S_ .f32 0x49742400#32))
  let sc : FVec F S4 .f32 := mulf g (Host.rsqrt (addf (subf ms (mulf mu mu)) (broadcastInDim S4 ![] bcast_S_S4 (constant S_ .f32 0x3727C5AC#32))))
  let sh : FVec F S4 .f32 := subf b (mulf mu sc)
  concatenate S8x128 0 [⟨S4x128, broadcastInDim S4x128 ![0, 1] bcast_S4x1_S4x128_0_1 (broadcastInDim S4x1 ![0] bcast_S4_S4x1_0 sc)⟩,
    ⟨S4x128, broadcastInDim S4x128 ![0, 1] bcast_S4x1_S4x128_0_1 (broadcastInDim S4x1 ![0] bcast_S4_S4x1_0 sh)⟩] concatenates_S4x128_S4x128_S8x128_d0

/-- The host operations between the two calls make those rows. -/
theorem host1 (V : Valuation τ sig (Elt F)) : StableHlo.after hostOps1 V (Proc.devRef .tc main_v22)
    = auxOf (V (Proc.devRef .tc main_v1_0)) (V (Proc.devRef .tc main_v1_1)) (V (Proc.devRef .tc main_arg1)) (V (Proc.devRef .tc main_arg2)) := by
  after_reads_simp; rfl

/-- The host operations before the calls turn the first argument around. -/
theorem host0 (V : Valuation τ sig (Elt F)) : StableHlo.after hostOps0 V (Proc.devRef .tc main_v0)
    = (transpose S4x1000000 [1, 0] (V (Proc.devRef .tc main_arg0) : FVec F S1000000x4 .f32) transposes_S1000000x4_S4x1000000_1_0 : FVec F S4x1000000 .f32) := by
  after_reads_simp

/-- The host operations after the calls turn the first result around, -/
theorem host2_hot (V : Valuation τ sig (Elt F)) : StableHlo.after hostOps2 V (Proc.devRef .tc main_v24)
    = (transpose S1000000x4 [1, 0] (V (Proc.devRef .tc main_v23_0) : FVec F S4x1000000 .f32) transposes_S4x1000000_S1000000x4_1_0 : FVec F S1000000x4 .f32) := by
  after_reads_simp

/-- and the second. -/
theorem host2_scaled (V : Valuation τ sig (Elt F)) : StableHlo.after hostOps2 V (Proc.devRef .tc main_v25)
    = (transpose S1000000x4 [1, 0] (V (Proc.devRef .tc main_v23_1) : FVec F S4x1000000 .f32) transposes_S4x1000000_S1000000x4_1_0 : FVec F S1000000x4 .f32) := by
  after_reads_simp
end

section
open Cert.Arith
/-- The sum of a row of an accumulator. -/
def rowSum (S : FVec Ideal S8x128 .f32) (a : Fin 4) : EReal := ∑ l : Fin 128, (show EReal from S (ix2 (⟨a.val, by omega⟩ : Fin 8) l))

/-- The rows of scales. -/
theorem aux_scale (S Q : FVec Ideal S8x128 .f32) (g b : FVec Ideal S4 .f32) (a : Fin 4) (l : Fin 128) :
    auxOf S Q g b (ix2 (⟨a.val, by omega⟩ : Fin 8) l) = kscale (rowSum S a) (rowSum Q a) (g (ix1 a)) := by
  pointwise [auxOf]
  rfl

/-- The rows of shifts. -/
theorem aux_shift (S Q : FVec Ideal S8x128 .f32) (g b : FVec Ideal S4 .f32) (a : Fin 4) (l : Fin 128) :
    auxOf S Q g b (ix2 (⟨4 + a.val, by omega⟩ : Fin 8) l) = kshift (rowSum S a) (rowSum Q a) (g (ix1 a)) (b (ix1 a)) := by
  pointwise [auxOf]
  rfl
end

section
open Cert.KernelIdeal.StatsBody Cert.KernelIdeal.StatsRegion
variable (V : (c : Dev nD) → (b : Ref sig .tc) → Buf (Elt Ideal) ((c : Thread nD τ).loc b)) (c : Dev nD)

/-- The array the first call reads. -/
abbrev arr0 : S4x1000000.Idx → EReal := V c (Pipeline.arrRef spec0 0)

/-- A function of an entry, nothing past the array's end. -/
def cell (x : S4x1000000.Idx → EReal) (f : EReal → EReal) (a : Fin 4) (r : ℕ) : EReal :=
  if h : r < 1000000 then f (x (ix2 a ⟨r, h⟩)) else 0

/-- An entry of an input block, a column inside the array. -/
theorem cell_x8 (f : EReal → EReal) (t : Fin cfg0.N) (a : Fin 4) (b : Fin 131072) (h : t.val * 131072 + b.val < 1000000) :
    f (StatsRegion.x8 V c t (ix2 a b)) = cell (arr0 V c) f a (t.val * 131072 + b.val) := by
  unfold cell
  rw [dif_pos h]
  exact congrArg f (x8_at V c t a b h)

/-- A point before the last adds its whole block. -/
theorem block_full (f : EReal → EReal) (t : Fin cfg0.N) (ht : t.val < 7) (a : Fin 4) (l : Fin 128) :
    ∑ k : Fin 1024, f (StatsRegion.x8 V c t (ix2 a ⟨k.val * 128 + l.val, by omega⟩))
      = ∑ k : Fin 1024, cell (arr0 V c) f a (t.val * 131072 + (k.val * 128 + l.val)) :=
  Finset.sum_congr rfl fun k _ => cell_x8 V c f t a ⟨k.val * 128 + l.val, by omega⟩ (by show t.val * 131072 + (k.val * 128 + l.val) < 1000000; omega)

/-- The last point adds the part of its block inside the array. -/
theorem block_last (f : EReal → EReal) (hf : f 0 = 0) (t : Fin cfg0.N) (ht : t.val = 7) (hi : ((grid0.coords t) 0 : ℕ) = 7) (a : Fin 4) (l : Fin 128) :
    ∑ k : Fin 1024, f (k0_pay6 (F := Ideal) (grid0.coords t) (StatsRegion.x8 V c t) (ix3 a k l))
      = ∑ k : Fin 1024, cell (arr0 V c) f a (t.val * 131072 + (k.val * 128 + l.val)) := by
  refine Finset.sum_congr rfl fun k _ => ?_
  rw [pay6_at _ hi]
  by_cases hc : k.val * 128 + l.val < 82496
  · rw [if_pos hc]
    exact cell_x8 V c f t a ⟨k.val * 128 + l.val, by omega⟩ (by show t.val * 131072 + (k.val * 128 + l.val) < 1000000; omega)
  · rw [if_neg hc, hf]
    unfold cell
    rw [dif_neg (by omega)]

/-- The first accumulator after a point, as a sum over the points so far. -/
theorem accA_top (n : ℕ) (h : n < cfg0.N) (a : Fin 4) (l : Fin 128) :
    top (accA V c n h) (ix2 a l) = (∑ s ∈ Finset.range (n + 1), ∑ k : Fin 1024, cell (arr0 V c) (fun v => v) a (s * 131072 + (k.val * 128 + l.val)) : EReal) := by
  induction n with
  | zero =>
    unfold accA
    rw [top_upd, pay4_at, top_at, pay1_at, zero_add, Finset.sum_range_one]
    exact block_full V c (fun v => v) ⟨0, h⟩ (by show 0 < 7; omega) a l
  | succ n ih =>
    have hN : n + 1 < 8 := lt_of_lt_of_eq h N_0
    have ih' := ih (Nat.lt_of_succ_lt h)
    rw [Finset.sum_range_succ]
    unfold accA
    by_cases h7 : n + 1 < 7
    · rw [if_pos h7, top_upd, pay4_at]
      exact congrArg₂ (fun x y : EReal => x + y) ih' (block_full V c (fun v => v) ⟨n + 1, h⟩ h7 a l)
    · rw [if_neg h7, top_upd, pay7_at]
      exact congrArg₂ (fun x y : EReal => x + y) ih' (block_last V c (fun v => v) rfl ⟨n + 1, h⟩ (by show n + 1 = 7; omega) (xsize_last ⟨n + 1, h⟩ h7).2 a l)

/-- The second accumulator after a point, as a sum over the points so far. -/
theorem accB_top (n : ℕ) (h : n < cfg0.N) (a : Fin 4) (l : Fin 128) :
    top (accB V c n h) (ix2 a l) = (∑ s ∈ Finset.range (n + 1), ∑ k : Fin 1024, cell (arr0 V c) (fun v => v * v) a (s * 131072 + (k.val * 128 + l.val)) : EReal) := by
  induction n with
  | zero =>
    unfold accB
    rw [top_upd, pay5_at, top_at, pay2_at, zero_add, Finset.sum_range_one]
    exact block_full V c (fun v => v * v) ⟨0, h⟩ (by show 0 < 7; omega) a l
  | succ n ih =>
    have hN : n + 1 < 8 := lt_of_lt_of_eq h N_0
    have ih' := ih (Nat.lt_of_succ_lt h)
    rw [Finset.sum_range_succ]
    unfold accB
    by_cases h7 : n + 1 < 7
    · rw [if_pos h7, top_upd, pay5_at]
      exact congrArg₂ (fun x y : EReal => x + y) ih' (block_full V c (fun v => v * v) ⟨n + 1, h⟩ h7 a l)
    · rw [if_neg h7, top_upd, pay8_at]
      exact congrArg₂ (fun x y : EReal => x + y) ih' (block_last V c (fun v => v * v) (zero_mul 0) ⟨n + 1, h⟩ (by show n + 1 = 7; omega) (xsize_last ⟨n + 1, h⟩ h7).2 a l)

/-- The lanes and the points together run over every row once. -/
theorem cells (x : S4x1000000.Idx → EReal) (f : EReal → EReal) (a : Fin 4) :
    ∑ l : Fin 128, ∑ s ∈ Finset.range 8, ∑ k : Fin 1024, cell x f a (s * 131072 + (k.val * 128 + l.val))
      = ∑ r : Fin 1000000, f (x (ix2 a r)) := by
  have e1 : ∑ l : Fin 128, ∑ s ∈ Finset.range 8, ∑ k : Fin 1024, cell x f a (s * 131072 + (k.val * 128 + l.val))
      = ∑ s : Fin 8, ∑ k : Fin 1024, ∑ l : Fin 128, cell x f a (s.val * 131072 + (k.val * 128 + l.val)) := by
    rw [Finset.sum_comm, Finset.sum_range]
    exact Finset.sum_congr rfl fun s _ => Finset.sum_comm
  have e2 : ∀ s : Fin 8, ∑ k : Fin 1024, ∑ l : Fin 128, cell x f a (s.val * 131072 + (k.val * 128 + l.val))
      = ∑ b : Fin 131072, cell x f a (s.val * 131072 + b.val) := fun s => by
    refine Fin.sum_mul_add_congr fun k l hl => ?_
    rfl
  have e3 : ∑ s : Fin 8, ∑ b : Fin 131072, cell x f a (s.val * 131072 + b.val) = ∑ r : Fin 1048576, cell x f a r.val := by
    refine Fin.sum_mul_add_congr fun s b hl => ?_
    rfl
  rw [e1, Finset.sum_congr rfl fun s _ => e2 s, e3, ← Finset.sum_range (fun r => cell x f a r),
    ← Finset.sum_subset (Finset.range_mono (show 1000000 ≤ 1048576 by omega)) (fun r _ hr => ?_), Finset.sum_range]
  · refine Finset.sum_congr rfl fun r _ => ?_
    unfold cell; rw [dif_pos r.isLt]
  · unfold cell; rw [dif_neg (by simpa using hr)]

/-- The whole array of sums after the first call, row by row. -/
theorem sums (a : Fin 4) : rowSum ((StatsRegion.dat V c).arrAt 1 cfg0.N) a = ∑ r : Fin 1000000, arr0 V c (ix2 a r) := by
  have e : (StatsRegion.dat V c).arrAt 1 cfg0.N = accA V c 7 (by rw [show cfg0.N = 8 from N_0]; omega) := by
    refine (StatsRegion.dat V c).arrAt_eq_of_after_last 1 t0_7 (by decide +kernel) _ fun j => ?_
    blk_simp
    rfl
  rw [e, ← cells (arr0 V c) (fun v => v) a]
  unfold rowSum
  exact Finset.sum_congr rfl fun l _ => (top_at _ a l).symm.trans (accA_top V c 7 _ a l)

/-- The whole array of sums of squares. -/
theorem squares (a : Fin 4) : rowSum ((StatsRegion.dat V c).arrAt 2 cfg0.N) a = ∑ r : Fin 1000000, arr0 V c (ix2 a r) * arr0 V c (ix2 a r) := by
  have e : (StatsRegion.dat V c).arrAt 2 cfg0.N = accB V c 7 (by rw [show cfg0.N = 8 from N_0]; omega) := by
    refine (StatsRegion.dat V c).arrAt_eq_of_after_last 2 t0_7 (by decide +kernel) _ fun j => ?_
    blk_simp
    rfl
  rw [e, ← cells (arr0 V c) (fun v => v * v) a]
  unfold rowSum
  exact Finset.sum_congr rfl fun l _ => (top_at _ a l).symm.trans (accB_top V c 7 _ a l)
end
end Cert.KernelIdeal.Value
end
-- ==== Proof.KernelValue.lean ====
/-
  The kernel's two results at an entry, as functions of its arguments.
-/
module

public import proofs.«01_k».proof.Proof.KernelSums
public import proofs.«01_k».proof.Proof.Rows
public import Idealize.ShloMosaic.Lib.Pointwise
public import Idealize.ShloMosaic.Lib.Pipeline.ValueKit

@[expose] public section

set_option maxHeartbeats 400000
set_option maxRecDepth 20000

noncomputable section

namespace Cert.KernelIdeal.Value

open Idealize.ShloMosaic Idealize.ShloMosaic.TcCoe Cert.KernelIdeal Cert.KernelIdeal.Gen
open Idealize.ShloMosaic.Pipeline (Dat Cfg Window)

section
open Cert.KernelIdeal.MainBody Cert.Words Cert.Pick Cert.Arith Cert.Rows

/-- The scaled block at an entry. -/
theorem pay2_row (X : Vec Ideal S4x131072 .f32) (A : Vec Ideal S8x128 .f32) (a : Fin 4) (k : Fin 1024) (l : Fin 128) :
    k1_pay2 X A (ix3 a k l) = (X (ix2 a ⟨k.val * 128 + l.val, by omega⟩) * A (ix2 (⟨a.val, by omega⟩ : Fin 8) l) + A (ix2 (⟨4 + a.val, by omega⟩ : Fin 8) l) : EReal) := by
  pointwise [k1_pay2]

/-- The kernel's softmax at an entry. -/
theorem pay4_row (X : Vec Ideal S4x131072 .f32) (A : Vec Ideal S8x128 .f32) (a : Fin 4) (k : Fin 1024) (l : Fin 128) :
    k1_pay4 X A (ix3 a k l) = ksoft (fun c => k1_pay2 X A (ix3 c k l)) a := by
  unfold k1_pay4
  generalize k1_pay2 X A = M
  pointwise []
  rfl

/-- The kernel's first result at an entry. -/
theorem pay1_row (v w : FVec Ideal S4x1024x128 .f32) (u : FVec Ideal S4x1024x128 .f32) (a : Fin 4) (b : Fin 131072) (r : ℕ)
    (hu : ∀ c : Fin 4, u (ix3 c ⟨b.val / 128, by omega⟩ ⟨b.val % 128, by omega⟩) = unit (F := Ideal) (word (4 * r + c.val))) :
    k1_pay1 v w (iota .tc S4x1024x128 32 [0] iota_S4x1024x128_d0_w32) u (ix2 a b)
      = hotRow (fun c => v (ix3 c ⟨b.val / 128, by omega⟩ ⟨b.val % 128, by omega⟩)) (fun c => w (ix3 c ⟨b.val / 128, by omega⟩ ⟨b.val % 128, by omega⟩)) r a := by
  unfold hotRow
  rw [← mark_kernel]
  pointwise [k1_pay1]
  simp only [hu, zero_sub, first, score, gum]
  try rfl
end

section
open Cert.KernelIdeal.MainBody Cert.KernelIdeal.MainCols Cert.Words Cert.Pick Cert.Arith Cert.Rows

/-- A row of scaled values, from a row of values, scales and shifts. -/
def line (A : S4x1000000.Idx → EReal) (sc sh : Fin 4 → EReal) (r : Fin 1000000) (a : Fin 4) : EReal := A (ix2 a r) * sc a + sh a

variable (V : (c : Dev nD) → (b : Ref sig .tc) → Buf (Elt Ideal) ((c : Thread nD τ).loc b)) (c : Dev nD)
  (A : S4x1000000.Idx → EReal) (hA : V c (Pipeline.arrRef spec1 0) = A) (sc sh : Fin 4 → EReal)
  (hsc : ∀ (a : Fin 4) (l : Fin 128), (show S8x128.Idx → EReal from V c (Pipeline.arrRef spec1 1)) (ix2 (⟨a.val, by omega⟩ : Fin 8) l) = sc a)
  (hsh : ∀ (a : Fin 4) (l : Fin 128), (show S8x128.Idx → EReal from V c (Pipeline.arrRef spec1 1)) (ix2 (⟨4 + a.val, by omega⟩ : Fin 8) l) = sh a)
include hA hsc hsh

/-- The scaled block of a point at a column inside the array. -/
theorem pay2_line (t : Fin cfg1.N) (a : Fin 4) (b : Fin 131072) (hb : t.val * 131072 + b.val < 1000000) :
    k1_pay2 (F := Ideal) (MainRegion.x8 V c t) (MainRegion.aux V c t) (ix3 a ⟨b.val / 128, by omega⟩ ⟨b.val % 128, by omega⟩)
      = line A sc sh ⟨t.val * 131072 + b.val, hb⟩ a := by
  rw [pay2_row, col_eq, aux_at]
  have h1 := hsc a ⟨b.val % 128, by omega⟩
  have h2 := hsh a ⟨b.val % 128, by omega⟩
  have h3 := y8_at V c t a b hb
  unfold line
  rw [← hA, ← h1, ← h2]
  exact congrArg (fun z : EReal => z * _ + _) h3

/-- The second output array. -/
theorem scaled_final : (MainRegion.dat V c).arrAt 3 cfg1.N = fun j : S4x1000000.Idx => line A sc sh (j 1) (j 0) := by
  refine scaled_arr V c _ fun t a b hb => ?_
  refine Eq.trans ?_ (pay2_line V c A hA sc sh hsc hsh t a b hb)
  unfold scaledBlk
  pointwise [k1_pay3]

/-- The first output array. -/
theorem hot_final : (MainRegion.dat V c).arrAt 2 cfg1.N
    = fun j : S4x1000000.Idx => hotRow (line A sc sh (j 1)) (ksoft (line A sc sh (j 1))) (j 1).val (j 0) := by
  refine hot_arr V c _ fun t a b hb => ?_
  have ht := (idx1 t).2.2.2.2
  unfold hotBlk
  rw [pay1_row _ _ _ a b (t.val * 131072 + b.val) (fun k => by
    rw [draws_at, ht]
    show unit (word (4 * (t.val * 131072 + (b.val / 128 * 128 + b.val % 128)) + k.val)) = _
    rw [Nat.div_add_mod' b.val 128])]
  have hv : (fun k : Fin 4 => k1_pay2 (F := Ideal) (MainRegion.x8 V c t) (MainRegion.aux V c t) (ix3 k ⟨b.val / 128, by omega⟩ ⟨b.val % 128, by omega⟩))
      = line A sc sh ⟨t.val * 131072 + b.val, hb⟩ := funext fun k => pay2_line V c A hA sc sh hsc hsh t k b hb
  have hw : (fun k : Fin 4 => k1_pay4 (F := Ideal) (MainRegion.x8 V c t) (MainRegion.aux V c t) (ix3 k ⟨b.val / 128, by omega⟩ ⟨b.val % 128, by omega⟩))
      = ksoft (line A sc sh ⟨t.val * 131072 + b.val, hb⟩) := funext fun k => by rw [pay4_row, hv]
  rw [hv, hw]
  rfl
end

section
open Cert.Arith Cert.Rows Cert.KernelIdeal.Run
variable (m : (ℓ : Loc nD τ sig) → Buf (Elt Ideal) ℓ) (c : Dev nD)

/-- The first argument's entries. -/
abbrev xs (r : Fin 1000000) (a : Fin 4) : EReal := (show S1000000x4.Idx → EReal from m ((c : Thread nD τ).loc main_arg0)) (ix2 r a)
/-- The gains. -/
abbrev gs (a : Fin 4) : EReal := (show S4.Idx → EReal from m ((c : Thread nD τ).loc main_arg1)) (ix1 a)
/-- The biases. -/
abbrev bs (a : Fin 4) : EReal := (show S4.Idx → EReal from m ((c : Thread nD τ).loc main_arg2)) (ix1 a)

/-- The scale of a column. -/
def sc (a : Fin 4) : EReal := kscale (∑ r, xs m c r a) (∑ r, xs m c r a * xs m c r a) (gs m c a)
/-- The shift of a column. -/
def sh (a : Fin 4) : EReal := kshift (∑ r, xs m c r a) (∑ r, xs m c r a * xs m c r a) (gs m c a) (bs m c a)

/-- The array both calls read, the first argument turned around. -/
def turned : S4x1000000.Idx → EReal := fun j => xs m c (j 1) (j 0)

/-- It is what the first call finds, -/
theorem v0_first : (V1 m c main_v0 : S4x1000000.Idx → EReal) = turned m c := by
  refine (host0 (V0 m c)).trans ?_
  funext j
  idx_vars j
  unfold turned
  pointwise []

/-- and what the second finds. -/
theorem v0_second : (V3 m (outs0 m) c main_v0 : S4x1000000.Idx → EReal) = turned m c :=
  ((V3_of m (outs0 m) c main_v0 (by decide)).trans (V2_of m (outs0 m) c main_v0 (by decide))).trans (v0_first m c)

/-- The rows of scales and shifts the second call finds. -/
theorem v22 : (V3 m (outs0 m) c main_v22 : S8x128.Idx → EReal)
    = auxOf (F := Ideal) ((StatsRegion.dat (fun c b => V1 m c b) c).arrAt 1 cfg0.N) ((StatsRegion.dat (fun c b => V1 m c b) c).arrAt 2 cfg0.N)
      (m ((c : Thread nD τ).loc main_arg1)) (m ((c : Thread nD τ).loc main_arg2)) := by
  have a1 : V2 m (outs m) c main_v1_0 = (StatsRegion.dat (fun c b => V1 m c b) c).arrAt 1 cfg0.N := by
    refine Eq.trans ?_ (outs_sum m c)
    exact (Function.update_of_ne (StableHlo.devRef_ne_of_ne (show main_v1_0 ≠ main_v1_1 by decide)) _ _).trans (Function.update_self _ _ _)
  have a2 : V2 m (outs m) c main_v1_1 = (StatsRegion.dat (fun c b => V1 m c b) c).arrAt 2 cfg0.N := by
    refine Eq.trans ?_ (outs_sq m c)
    exact Function.update_self _ _ _
  have a3 : V2 m (outs m) c main_arg1 = m ((c : Thread nD τ).loc main_arg1) :=
    (V2_of m (outs m) c main_arg1 (by decide)).trans ((V1_of m c main_arg1 (by decide)).trans rfl)
  have a4 : V2 m (outs m) c main_arg2 = m ((c : Thread nD τ).loc main_arg2) :=
    (V2_of m (outs m) c main_arg2 (by decide)).trans ((V1_of m c main_arg2 (by decide)).trans rfl)
  rw [← V3_outs]
  refine (host1 (V2 m (outs m) c)).trans ?_
  rw [a1, a2, a3, a4]

/-- The sum of a column. -/
theorem sums_col (a : Fin 4) : rowSum ((StatsRegion.dat (fun c b => V1 m c b) c).arrAt 1 cfg0.N) a = ∑ r, xs m c r a := by
  rw [sums]
  refine Finset.sum_congr rfl fun r _ => ?_
  exact congrFun (v0_first m c) (ix2 a r)

/-- The sum of the squares of a column. -/
theorem squares_col (a : Fin 4) : rowSum ((StatsRegion.dat (fun c b => V1 m c b) c).arrAt 2 cfg0.N) a = ∑ r, xs m c r a * xs m c r a := by
  rw [squares]
  refine Finset.sum_congr rfl fun r _ => ?_
  exact congrArg (fun z : EReal => z * z) (congrFun (v0_first m c) (ix2 a r))

/-- The scales the second call finds. -/
theorem v22_scale (a : Fin 4) (l : Fin 128) : (V3 m (outs0 m) c main_v22 : S8x128.Idx → EReal) (ix2 (⟨a.val, by omega⟩ : Fin 8) l) = sc m c a := by
  rw [v22, aux_scale, sums_col, squares_col]; rfl

/-- The shifts the second call finds. -/
theorem v22_shift (a : Fin 4) (l : Fin 128) : (V3 m (outs0 m) c main_v22 : S8x128.Idx → EReal) (ix2 (⟨4 + a.val, by omega⟩ : Fin 8) l) = sh m c a := by
  rw [v22, aux_shift, sums_col, squares_col]; rfl

/-- A row of the kernel's scaled values. -/
def krow (r : Fin 1000000) (a : Fin 4) : EReal := xs m c r a * sc m c a + sh m c a

/-- The kernel's second result. -/
theorem kernel_scaled : (V5 m (outs m) c main_v25 : S1000000x4.Idx → EReal) = fun j => krow m c (j 0) (j 1) := by
  refine (host2_scaled (V4 m (outs m) c)).trans ?_
  have e : V4 m (outs m) c main_v23_1 = (fun j : S4x1000000.Idx => line (turned m c) (sc m c) (sh m c) (j 1) (j 0)) := by
    refine (Function.update_self _ _ _).trans ((outs_scaled m c).trans ?_)
    exact scaled_final (fun c b => V3 m (outs0 m) c b) c (turned m c) (v0_second m c) (sc m c) (sh m c) (v22_scale m c) (v22_shift m c)
  rw [e]
  funext j
  idx_vars j
  pointwise []
  rfl

/-- The kernel's first result. -/
theorem kernel_hot : (V5 m (outs m) c main_v24 : S1000000x4.Idx → EReal)
    = fun j => hotRow (krow m c (j 0)) (ksoft (krow m c (j 0))) (j 0).val (j 1) := by
  refine (host2_hot (V4 m (outs m) c)).trans ?_
  have e : V4 m (outs m) c main_v23_0 = (fun j : S4x1000000.Idx => hotRow (line (turned m c) (sc m c) (sh m c) (j 1)) (ksoft (line (turned m c) (sc m c) (sh m c) (j 1))) (j 1).val (j 0)) := by
    refine ((Function.update_of_ne (StableHlo.devRef_ne_of_ne (show main_v23_0 ≠ main_v23_1 by decide)) _ _).trans (Function.update_self _ _ _)).trans ((outs_hot m c).trans ?_)
    exact hot_final (fun c b => V3 m (outs0 m) c b) c (turned m c) (v0_second m c) (sc m c) (sh m c) (v22_scale m c) (v22_shift m c)
  rw [e]
  funext j
  idx_vars j
  pointwise []
  rfl
end
end Cert.KernelIdeal.Value
end
-- ==== Proof.ReferenceValue.lean ====
/-
  The reference's two results at an entry.
-/
module

public import proofs.«01_k».proof.Proof.Rows

@[expose] public section

set_option maxHeartbeats 400000
set_option maxRecDepth 20000

noncomputable section

namespace Cert.RefValue

open Idealize.ShloMosaic Cert.ReferenceIdeal Cert.Words Cert.Pick Cert.Arith Cert.Rows

/-- The divisor of the squared deviations is the number of rows. -/
theorem dof_word : Ideal.ofBits .f32 1232348160#32 - (FloatOps.sitofp .f32 0#32 : Ideal .f32) = Ideal.ofBits .f32 1232348160#32 := by
  have e : (FloatOps.sitofp .f32 0#32 : Ideal .f32) = (0 : EReal) := by
    show (((0#32 : BitVec 32).toInt : ℝ) : EReal) = 0
    norm_num
  rw [e, sub_zero]

/-- The column means. -/
theorem mean_at (x : FVec Ideal S1000000x4 .f32) (c : Fin 4) : Ops.mean x (ix2 0 c) = kmean (∑ r : Fin 1000000, (show EReal from x (ix2 r c))) := by
  pointwise [Ops.mean]
  rfl

/-- The deviations. -/
theorem dev_at (x : FVec Ideal S1000000x4 .f32) (r : Fin 1000000) (c : Fin 4) :
    Ops.dev x (ix2 r c) = (x (ix2 r c) - kmean (∑ r : Fin 1000000, (show EReal from x (ix2 r c))) : EReal) := by
  rw [← mean_at]
  pointwise [Ops.dev]

/-- The column variances. -/
theorem var_at (x : FVec Ideal S1000000x4 .f32) (c : Fin 4) : Ops.var x (ix2 0 c) = rvar (fun r : Fin 1000000 => (show EReal from x (ix2 r c))) := by
  have hp : (0 : EReal) < Ideal.ofBits .f32 1232348160#32 := by rw [rows_word]; exact_mod_cast (by norm_num : (0 : ℝ) < 1000000)
  pointwise [Ops.var, Ops.dof]
  rw [dof_word]
  refine (if_pos hp).trans ?_
  have e : ∑ r : Fin 1000000, ((Ops.dev x (ix2 r c) : EReal) * Ops.dev x (ix2 r c))
      = ∑ r : Fin 1000000, (((x (ix2 r c) : EReal) - kmean (∑ r : Fin 1000000, (show EReal from x (ix2 r c)))) * ((x (ix2 r c) : EReal) - kmean (∑ r : Fin 1000000, (show EReal from x (ix2 r c))))) :=
    Finset.sum_congr rfl fun r _ => by rw [dev_at]
  rw [e, rvar]

/-- The second result at an entry. -/
theorem norm_at (x : FVec Ideal S1000000x4 .f32) (g b : FVec Ideal S4 .f32) (r : Fin 1000000) (c : Fin 4) :
    Ops.norm x g b (ix2 r c) = rnorm (fun r : Fin 1000000 => (show EReal from x (ix2 r c))) (g (ix1 c)) (b (ix1 c)) r := by
  unfold rnorm
  rw [← var_at, ← mean_at]
  pointwise [Ops.norm, Ops.dev]

/-- The greatest entry of every row. -/
theorem reduce_at (y : FVec Ideal S1000000x4 .f32) (r : Fin 1000000) :
    (Host.reduce FloatOps.maximumf y (constant S_ .f32 0xFF800000#32) Facts₀.reducesTo_S1000000x4_S1000000_d1 Facts₀.h_S_ : FVec Ideal S1000000 .f32) (ix1 r)
      = Finset.fold max (Ideal.ofBits .f32 4286578688#32) (fun c => y (ix2 r c)) Finset.univ := by
  pointwise []

/-- A column broadcast along its rows. -/
theorem row_at (M : FVec Ideal S1000000 .f32) (r : Fin 1000000) (c : Fin 4) :
    broadcastInDim S1000000x4 ![0, 1] Facts₀.bcast_S1000000x1_S1000000x4_0_1
      (broadcastInDim S1000000x1 ![0] Facts₀.bcast_S1000000_S1000000x1_0 M) (ix2 r c) = M (ix1 r) := by
  pointwise []

/-- The maximum with minus infinity. -/
theorem maxi_at (M : FVec Ideal S1000000 .f32) (r : Fin 1000000) :
    maximumf (broadcastInDim S1000000 ![] Facts₀.bcast_S_S1000000 (constant S_ .f32 0xFF800000#32)) M (ix1 r)
      = max (Ideal.ofBits .f32 4286578688#32) (M (ix1 r)) := by
  pointwise []

/-- The exponential of a difference. -/
theorem exp_sub_at (y B : FVec Ideal S1000000x4 .f32) (i : S1000000x4.Idx) : Host.exp (subf y B) i = Ideal.exp (y i - B i) := by
  pointwise []

/-- A quotient. -/
theorem div_at (y B : FVec Ideal S1000000x4 .f32) (i : S1000000x4.Idx) : Host.divf y B i = Ideal.div (y i) (B i) := by
  pointwise []

/-- The sum of every row. -/
theorem rsum_at (y : FVec Ideal S1000000x4 .f32) (r : Fin 1000000) :
    (Host.reduceAdd y (constant S_ .f32 0x00000000#32) Facts₀.reducesTo_S1000000x4_S1000000_d1 Facts₀.h_S_ : FVec Ideal S1000000 .f32) (ix1 r)
      = ∑ c : Fin 4, (show EReal from y (ix2 r c)) := by
  pointwise []

/-- The exponentials. -/
theorem expo_at (y : FVec Ideal S1000000x4 .f32) (r : Fin 1000000) (c : Fin 4) :
    Ops.expo y (ix2 r c) = Ideal.exp (y (ix2 r c) - rmax (fun c => y (ix2 r c))) :=
  (exp_sub_at _ _ _).trans (congrArg (fun z : EReal => Ideal.exp (y (ix2 r c) - z))
    ((row_at _ r c).trans ((maxi_at _ r).trans (congrArg (fun z : EReal => max (Ideal.ofBits .f32 4286578688#32) z) (reduce_at y r)))))

/-- The softmax at an entry. -/
theorem soft_at (y : FVec Ideal S1000000x4 .f32) (r : Fin 1000000) (c : Fin 4) :
    Ops.soft y (ix2 r c) = rsoft (fun c => y (ix2 r c)) c :=
  (div_at _ _ _).trans (congrArg₂ Ideal.div (expo_at y r c)
    ((row_at _ r c).trans ((rsum_at _ r).trans (Finset.sum_congr rfl fun k _ => expo_at y r k))))

/-- The word of one. -/
theorem one_word : Ideal.ofBits .f32 0x3F800000#32 = (1 : EReal) := by
  simp [Ideal.ofBits, Ideal.ieee, -EReal.coe_mul]; norm_num

/-- The number a word makes. -/
theorem unit_ideal (w : BitVec 32) : unit (F := Ideal) w = (Ideal.ofBits .f32 (IntOp.ori (IntOp.shrui .vector w 9#32) 1065353216#32)
    - Ideal.ofBits .f32 0x3F800000#32 + Ideal.ofBits .f32 0x00800000#32 : EReal) := rfl

/-- The draws made of two random words, at an entry. -/
theorem draw_pair (p : IVec S1000000x4 32 × IVec S1000000x4 32) (r : Fin 1000000) (c : Fin 4) :
    Ops.draw (F := Ideal) p (ix2 r c) = gum (unit (F := Ideal) (IntOp.xori (p.1 (ix2 r c)) (p.2 (ix2 r c)))) := by
  have e2 : ∀ w : BitVec 32, IntOp.shrui .host w 9#32 = IntOp.shrui .vector w 9#32 := fun w => by
    rw [shrui_lt _ _ _ (by decide), shrui_lt _ _ _ (by decide)]
  pointwise [Ops.draw]
  rw [e2, unit_ideal, one_word]
  unfold gum
  with_reducible rfl

/-- The reference's draws. -/
theorem draw_at (r : Fin 1000000) (c : Fin 4) :
    Ops.draw (F := Ideal) Ops.words (ix2 r c) = gum (unit (F := Ideal) (word (4 * r.val + c.val))) := by
  rw [draw_pair, words_at]

/-- The first result at an entry. -/
theorem hot_at (y p g : FVec Ideal S1000000x4 .f32) (r : Fin 1000000) (c : Fin 4)
    (hg : ∀ c : Fin 4, g (ix2 r c) = gum (unit (F := Ideal) (word (4 * r.val + c.val)))) :
    Ops.hot y p g (ix2 r c) = hotRow (fun c => y (ix2 r c)) (fun c => p (ix2 r c)) r.val c := by
  unfold Ops.hot
  rw [pick_at]
  have e : (fun c => (g (ix2 r c) + y (ix2 r c) : EReal)) = score (fun c => y (ix2 r c)) r.val := funext fun c => by rw [hg]; rfl
  unfold hotRow
  rw [← mark_reference, ← e]
  pointwise []

end Cert.RefValue
end
-- ==== Proof.Equal.lean ====
/-
  On finite arguments the kernel's two results are the reference's.
-/
module

public import proofs.«01_k».proof.Proof.Finite
public import proofs.«01_k».proof.Proof.KernelValue
public import proofs.«01_k».proof.Proof.ReferenceValue
public import proofs.«01_k».proof.Proof.ReferenceRun
public import proofs.«01_k».proof.Proof.RunKernelIdeal

@[expose] public section

set_option maxHeartbeats 400000
set_option maxRecDepth 20000

noncomputable section

namespace Cert.Equal

open Idealize.ShloMosaic Idealize.ShloMosaic.TcCoe Cert.KernelIdeal Cert.KernelIdeal.Gen
open Cert.KernelIdeal.Value Cert.Arith Cert.Rows Cert.KernelIdeal.Run

variable (m : (ℓ : Loc nD τ sig) → Buf (Elt Ideal) ℓ) (c : Dev nD)

/-- The arguments as the reference takes them. -/
abbrev x0 : FVec Ideal Cert.ReferenceIdeal.S1000000x4 .f32 := m ((c.tc : Thread nD τ).loc main_arg0)
/-- The gains as the reference takes them. -/
abbrev x1 : FVec Ideal Cert.ReferenceIdeal.S4 .f32 := m ((c.tc : Thread nD τ).loc main_arg1)
/-- The biases as the reference takes them. -/
abbrev x2 : FVec Ideal Cert.ReferenceIdeal.S4 .f32 := m ((c.tc : Thread nD τ).loc main_arg2)

/-- The predicate of the precondition, of the arguments. -/
abbrev Fine : Prop := Cert.Pre_finite.fn (F := Ideal) (x0 m c) (x1 m c) (x2 m c) = fun _ => 1#1

/-- On finite arguments the kernel's scaled values and the reference's are the same reals. -/
theorem row_real (h : Fine m c) : ∃ Y : Fin 1000000 → Fin 4 → ℝ, ∀ r a,
    krow m c r a = (Y r a : EReal) ∧ Cert.ReferenceIdeal.Ops.norm (x0 m c) (x1 m c) (x2 m c) (ix2 r a) = (Y r a : EReal) := by
  obtain ⟨⟨X, hX⟩, ⟨G, hG⟩, ⟨B, hB⟩⟩ := Cert.Finite.reals _ _ _ h
  have k : ∀ r a, ∃ y : ℝ, krow m c r a = (y : EReal)
      ∧ Cert.ReferenceIdeal.Ops.norm (x0 m c) (x1 m c) (x2 m c) (ix2 r a) = (y : EReal) := by
    intro r a
    obtain ⟨y, hy, hz⟩ := norm_real (Fintype.card_fin 1000000) (fun r => X r a) (G a) (B a) r
    have ex : ∀ r, xs m c r a = (X r a : EReal) := fun r => hX r a
    have eg : gs m c a = (G a : EReal) := hG a
    have eb : bs m c a = (B a : EReal) := hB a
    refine ⟨y, ?_, ?_⟩
    · unfold krow sc sh
      simp only [ex, eg, eb]
      exact hy
    · refine (Cert.RefValue.norm_at _ _ _ r a).trans ?_
      have e : (fun r : Fin 1000000 => (show EReal from x0 m c (ix2 r a))) = fun r => (X r a : EReal) := funext fun r => hX r a
      rw [e, hG a, hB a]
      exact hz
  choose Y hY using k
  exact ⟨Y, hY⟩

/-- The kernel's second result is the reference's. -/
theorem scaled_eq (h : Fine m c) :
    (V5 m (outs m) c main_v25 : S1000000x4.Idx → EReal) = Cert.ReferenceIdeal.Ops.norm (x0 m c) (x1 m c) (x2 m c) := by
  obtain ⟨Y, hY⟩ := row_real m c h
  rw [kernel_scaled]
  funext j
  idx_vars j
  exact (hY _ _).1.trans (hY _ _).2.symm

/-- The kernel's first result is the reference's. -/
theorem hot_eq (h : Fine m c) :
    (V5 m (outs m) c main_v24 : S1000000x4.Idx → EReal)
      = Cert.ReferenceIdeal.Ops.hot (Cert.ReferenceIdeal.Ops.norm (x0 m c) (x1 m c) (x2 m c))
          (Cert.ReferenceIdeal.Ops.soft (Cert.ReferenceIdeal.Ops.norm (x0 m c) (x1 m c) (x2 m c)))
          (Cert.ReferenceIdeal.Ops.draw Cert.ReferenceIdeal.Ops.words) := by
  obtain ⟨Y, hY⟩ := row_real m c h
  rw [kernel_hot]
  funext j
  obtain ⟨r, a, rfl⟩ : ∃ (r : Fin 1000000) (a : Fin 4), j = ix2 r a := ⟨j 0, j 1, by idx_vars j⟩
  refine Eq.trans ?_ (Cert.RefValue.hot_at _ _ _ r a fun a => Cert.RefValue.draw_at r a).symm
  have ey : krow m c r = fun a => (Y r a : EReal) := funext fun a => (hY r a).1
  have en : (fun a => Cert.ReferenceIdeal.Ops.norm (x0 m c) (x1 m c) (x2 m c) (ix2 r a)) = fun a => (Y r a : EReal) :=
    funext fun a => (hY r a).2
  have es : (fun a => Cert.ReferenceIdeal.Ops.soft (Cert.ReferenceIdeal.Ops.norm (x0 m c) (x1 m c) (x2 m c)) (ix2 r a))
      = ksoft fun a => (Y r a : EReal) :=
    funext fun a => (Cert.RefValue.soft_at _ r a).trans ((congrFun (congrArg rsoft en) a).trans (soft_real (Y r) a).symm)
  show hotRow (krow m c r) (ksoft (krow m c r)) r.val a = _
  rw [ey, ← es, ← en]

end Cert.Equal
end
-- ==== Proof.lean ====
/- The proof of the certificate's claim, assembled from the runs of the kernel and of the reference. -/
module

public import proofs.«01_k».proof.Defs
public import proofs.«01_k».proof.Proof.RunKernel
public import proofs.«01_k».proof.Proof.Equal

@[expose] public section

noncomputable section

namespace Cert.Proof

open Idealize.ShloMosaic Idealize.ShloMosaic.TcCoe Idealize.SL.Sem

/-- The idealized kernel's frame, whatever its arguments hold. -/
theorem kernel_frame : Cert.quiescent_KernelIdeal := by
  intro m g _
  exact θ_run_mono (Cert.KernelIdeal.Run.run (F := Ideal) m g) fun r h =>
    ⟨fun c => ⟨(h.1 c).1, (h.1 c).2.1, (h.1 c).2.2.1⟩, h.2⟩

/-- The reference's frame, whatever its arguments hold. -/
theorem reference_frame : Cert.quiescent_ReferenceIdeal := by
  intro m g _
  exact θ_run_mono (Cert.ReferenceIdeal.Ops.run (F := Ideal) m g) fun r h =>
    ⟨fun c => ⟨(h.1 c).1, (h.1 c).2.1, (h.1 c).2.2.1⟩, h.2⟩

/-- On finite arguments the kernel and the reference end with the same two results. -/
theorem values : Cert.algebraic_KernelIdeal_ReferenceIdeal_pre_finite := by
  intro m g m' g' hp ha
  refine ⟨fun c => Cert.KernelIdeal.Gen.V5 m (Cert.KernelIdeal.Run.outs m) c Cert.KernelIdeal.main_v24,
    fun c => Cert.KernelIdeal.Gen.V5 m (Cert.KernelIdeal.Run.outs m) c Cert.KernelIdeal.main_v25, ?_, ?_⟩
  · exact θ_run_mono (Cert.KernelIdeal.Run.run (F := Ideal) m g) fun r h c =>
      ⟨(h.1 c).2.2.2.1, (h.1 c).2.2.2.2, (h.1 c).1, (h.1 c).2.1, (h.1 c).2.2.1⟩
  · refine θ_run_mono (Cert.ReferenceIdeal.Ops.run (F := Ideal) m' g') fun r h c => ?_
    refine ⟨(h.1 c).2.2.2.1.trans ?_, (h.1 c).2.2.2.2.trans ?_, (h.1 c).1, (h.1 c).2.1, (h.1 c).2.2.1⟩
    · rw [(ha c).1, (ha c).2.1, (ha c).2.2]
      exact (Cert.Equal.hot_eq m c (hp c)).symm
    · rw [(ha c).1, (ha c).2.1, (ha c).2.2]
      exact (Cert.Equal.scaled_eq m c (hp c)).symm

/-- Everything the certificate claims. -/
theorem claim : Cert.Claim := by
  refine ⟨Cert.Kernel.Gen.facts, Cert.KernelIdeal.Gen.facts, Cert.ReferenceIdeal.Gen.facts, Cert.Pre_finite.Gen.facts, ?_, ?_, ?_, ?_, ?_, trivial, ?_⟩
  · intro m g _
    exact θ_run_mono (Cert.Kernel.Run.run (F := Bits) m g) fun r h =>
      ⟨fun c => ⟨(h.1 c).1, (h.1 c).2.1, (h.1 c).2.2.1⟩, h.2⟩
  · exact kernel_frame
  · exact fun m g _ => kernel_frame m g trivial
  · exact reference_frame
  · exact fun m g _ => reference_frame m g trivial
  · exact values

end Cert.Proof

end
